-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S2x8 : Shape := ⟨2, ![2, 8]⟩
abbrev S_ : Shape := ⟨0, ![]⟩
abbrev S1x1 : Shape := ⟨2, ![1, 1]⟩

abbrev nBuf : Space → Nat
  | .hbm => 2
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S128x512, .f32⟩
  | .local _ .vmem, ⟨4, _⟩ => ⟨S64x512, .f32⟩
  | .local _ .vmem, ⟨5, _⟩ => ⟨S32x512, .f32⟩
  | .local _ .vmem, ⟨6, _⟩ => ⟨S256x512, .f32⟩
  | .local _ .vmem, ⟨7, _⟩ => ⟨S128x512, .f32⟩
  | .local _ .vmem, ⟨8, _⟩ => ⟨S64x512, .f32⟩
  | .local _ .vmem, ⟨9, _⟩ => ⟨S32x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v37 : BitVec 32 := Scalar.muli c4_i32_17 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v38 : BitVec 32 := Scalar.xori v12 c1_i32_18
  let v39 : BitVec 32 := Scalar.addi v37 v38
  let c1_i32_24 : BitVec 32 := 1#32
  let v50 : BitVec 32 := Scalar.muli v39 c1_i32_24
  let v51 : BitVec 32 := Scalar.addi c0_i32_25 v50
  v51.toNat
def k0_dev2 (d0 : Dev nD) : Nat :=
  let c0_i32_28 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v40 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v41 : BitVec 32 := Scalar.xori v12 c3_i32
  let v42 : BitVec 32 := Scalar.addi v40 v41
  let c1_i32_27 : BitVec 32 := 1#32
  let v52 : BitVec 32 := Scalar.muli v42 c1_i32_27
  let v53 : BitVec 32 := Scalar.addi c0_i32_28 v52
  v53.toNat
def k0_dev3 (d0 : Dev nD) : Nat :=
  let c0_i32_31 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_20 : BitVec 32 := 1#32
  let v43 : BitVec 32 := Scalar.xori v29 c1_i32_20
  let v44 : BitVec 32 := Scalar.muli c4_i32_21 v43
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi v44 v12
  let c1_i32_30 : BitVec 32 := 1#32
  let v54 : BitVec 32 := Scalar.muli v45 c1_i32_30
  let v55 : BitVec 32 := Scalar.addi c0_i32_31 v54
  v55.toNat
def k0_dev4 (d0 : Dev nD) : Nat :=
  let c0_i32_34 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32 : BitVec 32 := 2#32
  let v46 : BitVec 32 := Scalar.xori v29 c2_i32
  let v47 : BitVec 32 := Scalar.muli c4_i32_22 v46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v48 : BitVec 32 := Scalar.addi v47 v12
  let c1_i32_33 : BitVec 32 := 1#32
  let v56 : BitVec 32 := Scalar.muli v48 c1_i32_33
  let v57 : BitVec 32 := Scalar.addi c0_i32_34 v56
  v57.toNat
def k0_off1 (d0 : Dev nD) : Fin 2 → Nat :=
  let c0_i32_39 : BitVec 32 := 0#32
  let c1_i32_37 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.subi c1_i32_37 v32
  let c256_i32_38 : BitVec 32 := 256#32
  let v61 : BitVec 32 := Scalar.muli v60 c256_i32_38
  let v62 : BitVec 32 := Scalar.addi c0_i32_39 v61
  let c0_i32_46 : BitVec 32 := 0#32
  ![v62.toNat, 0]
def k0_dev5 (d0 : Dev nD) : Nat :=
  let c0_i32_45 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v37 : BitVec 32 := Scalar.muli c4_i32_17 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v38 : BitVec 32 := Scalar.xori v12 c1_i32_18
  let v39 : BitVec 32 := Scalar.addi v37 v38
  let c1_i32_44 : BitVec 32 := 1#32
  let v63 : BitVec 32 := Scalar.muli v39 c1_i32_44
  let v64 : BitVec 32 := Scalar.addi c0_i32_45 v63
  v64.toNat
def k0_off2 (d0 : Dev nD) : Fin 2 → Nat :=
  let c512_i32_50 : BitVec 32 := 512#32
  let c1_i32_48 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let v72 : BitVec 32 := Scalar.subi c1_i32_48 v34
  let c256_i32_49 : BitVec 32 := 256#32
  let v73 : BitVec 32 := Scalar.muli v72 c256_i32_49
  let v74 : BitVec 32 := Scalar.addi c512_i32_50 v73
  let c0_i32_57 : BitVec 32 := 0#32
  ![v74.toNat, 0]
def k0_dev6 (d0 : Dev nD) : Nat :=
  let c0_i32_56 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_20 : BitVec 32 := 1#32
  let v43 : BitVec 32 := Scalar.xori v29 c1_i32_20
  let v44 : BitVec 32 := Scalar.muli c4_i32_21 v43
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi v44 v12
  let c1_i32_55 : BitVec 32 := 1#32
  let v75 : BitVec 32 := Scalar.muli v45 c1_i32_55
  let v76 : BitVec 32 := Scalar.addi c0_i32_56 v75
  v76.toNat
def k0_off3 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let v98 : Index := Scalar.indexCast v59
  let c0 : Index := 0#32
  ![v98.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let v105 : Index := Scalar.indexCast v71
  let c0_87 : Index := 0#32
  ![v105.toNat, 0]
def k0_off5 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_91 : BitVec 32 := 1#32
  let c1_i32_13 : BitVec 32 := 1#32
  let v33 : BitVec 32 := Scalar.shrsi v12 c1_i32_13
  let v114 : BitVec 32 := Scalar.subi c1_i32_91 v33
  let c128_i32_92 : BitVec 32 := 128#32
  let v115 : BitVec 32 := Scalar.muli v114 c128_i32_92
  let v116 : BitVec 32 := Scalar.addi v59 v115
  let c0_i32_99 : BitVec 32 := 0#32
  ![v116.toNat, 0]
def k0_dev7 (d0 : Dev nD) : Nat :=
  let c0_i32_98 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v40 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v41 : BitVec 32 := Scalar.xori v12 c3_i32
  let v42 : BitVec 32 := Scalar.addi v40 v41
  let c1_i32_97 : BitVec 32 := 1#32
  let v117 : BitVec 32 := Scalar.muli v42 c1_i32_97
  let v118 : BitVec 32 := Scalar.addi c0_i32_98 v117
  v118.toNat
def k0_off6 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_101 : BitVec 32 := 1#32
  let c1_i32_15 : BitVec 32 := 1#32
  let v35 : BitVec 32 := Scalar.shrsi v29 c1_i32_15
  let c1_i32_16 : BitVec 32 := 1#32
  let v36 : BitVec 32 := Scalar.andi v35 c1_i32_16
  let v126 : BitVec 32 := Scalar.subi c1_i32_101 v36
  let c128_i32_102 : BitVec 32 := 128#32
  let v127 : BitVec 32 := Scalar.muli v126 c128_i32_102
  let v128 : BitVec 32 := Scalar.addi v71 v127
  let c0_i32_109 : BitVec 32 := 0#32
  ![v128.toNat, 0]
def k0_dev8 (d0 : Dev nD) : Nat :=
  let c0_i32_108 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32 : BitVec 32 := 2#32
  let v46 : BitVec 32 := Scalar.xori v29 c2_i32
  let v47 : BitVec 32 := Scalar.muli c4_i32_22 v46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v48 : BitVec 32 := Scalar.addi v47 v12
  let c1_i32_107 : BitVec 32 := 1#32
  let v129 : BitVec 32 := Scalar.muli v48 c1_i32_107
  let v130 : BitVec 32 := Scalar.addi c0_i32_108 v129
  v130.toNat
def k0_off7 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let v152 : Index := Scalar.indexCast v113
  let c0_136 : Index := 0#32
  ![v152.toNat, 0]
def k0_off8 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let v159 : Index := Scalar.indexCast v125
  let c0_140 : Index := 0#32
  ![v159.toNat, 0]
def k0_off9 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c1_i32_144 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let v168 : BitVec 32 := Scalar.subi c1_i32_144 v34
  let c64_i32_145 : BitVec 32 := 64#32
  let v169 : BitVec 32 := Scalar.muli v168 c64_i32_145
  let v170 : BitVec 32 := Scalar.addi v113 v169
  let c0_i32_152 : BitVec 32 := 0#32
  ![v170.toNat, 0]
def k0_dev9 (d0 : Dev nD) : Nat :=
  let c0_i32_151 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_20 : BitVec 32 := 1#32
  let v43 : BitVec 32 := Scalar.xori v29 c1_i32_20
  let v44 : BitVec 32 := Scalar.muli c4_i32_21 v43
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi v44 v12
  let c1_i32_150 : BitVec 32 := 1#32
  let v171 : BitVec 32 := Scalar.muli v45 c1_i32_150
  let v172 : BitVec 32 := Scalar.addi c0_i32_151 v171
  v172.toNat
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c1_i32_154 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v180 : BitVec 32 := Scalar.subi c1_i32_154 v32
  let c64_i32_155 : BitVec 32 := 64#32
  let v181 : BitVec 32 := Scalar.muli v180 c64_i32_155
  let v182 : BitVec 32 := Scalar.addi v125 v181
  let c0_i32_162 : BitVec 32 := 0#32
  ![v182.toNat, 0]
def k0_dev10 (d0 : Dev nD) : Nat :=
  let c0_i32_161 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v37 : BitVec 32 := Scalar.muli c4_i32_17 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v38 : BitVec 32 := Scalar.xori v12 c1_i32_18
  let v39 : BitVec 32 := Scalar.addi v37 v38
  let c1_i32_160 : BitVec 32 := 1#32
  let v183 : BitVec 32 := Scalar.muli v39 c1_i32_160
  let v184 : BitVec 32 := Scalar.addi c0_i32_161 v183
  v184.toNat
def k0_off11 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let v206 : Index := Scalar.indexCast v167
  let c0_189 : Index := 0#32
  ![v206.toNat, 0]
def k0_off12 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let v213 : Index := Scalar.indexCast v179
  let c0_193 : Index := 0#32
  ![v213.toNat, 0]
def k0_off13 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_197 : BitVec 32 := 1#32
  let c1_i32_15 : BitVec 32 := 1#32
  let v35 : BitVec 32 := Scalar.shrsi v29 c1_i32_15
  let c1_i32_16 : BitVec 32 := 1#32
  let v36 : BitVec 32 := Scalar.andi v35 c1_i32_16
  let v222 : BitVec 32 := Scalar.subi c1_i32_197 v36
  let c32_i32_198 : BitVec 32 := 32#32
  let v223 : BitVec 32 := Scalar.muli v222 c32_i32_198
  let v224 : BitVec 32 := Scalar.addi v167 v223
  let c0_i32_205 : BitVec 32 := 0#32
  ![v224.toNat, 0]
def k0_dev11 (d0 : Dev nD) : Nat :=
  let c0_i32_204 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32 : BitVec 32 := 2#32
  let v46 : BitVec 32 := Scalar.xori v29 c2_i32
  let v47 : BitVec 32 := Scalar.muli c4_i32_22 v46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v48 : BitVec 32 := Scalar.addi v47 v12
  let c1_i32_203 : BitVec 32 := 1#32
  let v225 : BitVec 32 := Scalar.muli v48 c1_i32_203
  let v226 : BitVec 32 := Scalar.addi c0_i32_204 v225
  v226.toNat
def k0_off14 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_207 : BitVec 32 := 1#32
  let c1_i32_13 : BitVec 32 := 1#32
  let v33 : BitVec 32 := Scalar.shrsi v12 c1_i32_13
  let v234 : BitVec 32 := Scalar.subi c1_i32_207 v33
  let c32_i32_208 : BitVec 32 := 32#32
  let v235 : BitVec 32 := Scalar.muli v234 c32_i32_208
  let v236 : BitVec 32 := Scalar.addi v179 v235
  let c0_i32_215 : BitVec 32 := 0#32
  ![v236.toNat, 0]
def k0_dev12 (d0 : Dev nD) : Nat :=
  let c0_i32_214 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v40 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v41 : BitVec 32 := Scalar.xori v12 c3_i32
  let v42 : BitVec 32 := Scalar.addi v40 v41
  let c1_i32_213 : BitVec 32 := 1#32
  let v237 : BitVec 32 := Scalar.muli v42 c1_i32_213
  let v238 : BitVec 32 := Scalar.addi c0_i32_214 v237
  v238.toNat
def k0_off15 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_15 : BitVec 32 := 1#32
  let v35 : BitVec 32 := Scalar.shrsi v29 c1_i32_15
  let c1_i32_16 : BitVec 32 := 1#32
  let v36 : BitVec 32 := Scalar.andi v35 c1_i32_16
  let c32_i32 : BitVec 32 := 32#32
  let v220 : BitVec 32 := Scalar.muli v36 c32_i32
  let v221 : BitVec 32 := Scalar.addi v167 v220
  let v260 : Index := Scalar.indexCast v221
  let c0_242 : Index := 0#32
  ![v260.toNat, 0]
def k0_off16 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_13 : BitVec 32 := 1#32
  let v33 : BitVec 32 := Scalar.shrsi v12 c1_i32_13
  let c32_i32_206 : BitVec 32 := 32#32
  let v232 : BitVec 32 := Scalar.muli v33 c32_i32_206
  let v233 : BitVec 32 := Scalar.addi v179 v232
  let v267 : Index := Scalar.indexCast v233
  let c0_246 : Index := 0#32
  ![v267.toNat, 0]
def k0_off17 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_15 : BitVec 32 := 1#32
  let v35 : BitVec 32 := Scalar.shrsi v29 c1_i32_15
  let c1_i32_16 : BitVec 32 := 1#32
  let v36 : BitVec 32 := Scalar.andi v35 c1_i32_16
  let c32_i32 : BitVec 32 := 32#32
  let v220 : BitVec 32 := Scalar.muli v36 c32_i32
  let v221 : BitVec 32 := Scalar.addi v167 v220
  let c0_i32_256 : BitVec 32 := 0#32
  ![v221.toNat, 0]
def k0_dev13 (d0 : Dev nD) : Nat :=
  let c0_i32_255 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32 : BitVec 32 := 2#32
  let v46 : BitVec 32 := Scalar.xori v29 c2_i32
  let v47 : BitVec 32 := Scalar.muli c4_i32_22 v46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v48 : BitVec 32 := Scalar.addi v47 v12
  let c1_i32_254 : BitVec 32 := 1#32
  let v274 : BitVec 32 := Scalar.muli v48 c1_i32_254
  let v275 : BitVec 32 := Scalar.addi c0_i32_255 v274
  v275.toNat
def k0_off18 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_13 : BitVec 32 := 1#32
  let v33 : BitVec 32 := Scalar.shrsi v12 c1_i32_13
  let c32_i32_206 : BitVec 32 := 32#32
  let v232 : BitVec 32 := Scalar.muli v33 c32_i32_206
  let v233 : BitVec 32 := Scalar.addi v179 v232
  let c0_i32_264 : BitVec 32 := 0#32
  ![v233.toNat, 0]
def k0_dev14 (d0 : Dev nD) : Nat :=
  let c0_i32_263 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v40 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v41 : BitVec 32 := Scalar.xori v12 c3_i32
  let v42 : BitVec 32 := Scalar.addi v40 v41
  let c1_i32_262 : BitVec 32 := 1#32
  let v282 : BitVec 32 := Scalar.muli v42 c1_i32_262
  let v283 : BitVec 32 := Scalar.addi c0_i32_263 v282
  v283.toNat
def k0_off19 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_15 : BitVec 32 := 1#32
  let v35 : BitVec 32 := Scalar.shrsi v29 c1_i32_15
  let c1_i32_16 : BitVec 32 := 1#32
  let v36 : BitVec 32 := Scalar.andi v35 c1_i32_16
  let c32_i32 : BitVec 32 := 32#32
  let v220 : BitVec 32 := Scalar.muli v36 c32_i32
  let v221 : BitVec 32 := Scalar.addi v167 v220
  let c32_i32_281 : BitVec 32 := 32#32
  let v300 : BitVec 32 := Scalar.muli v36 c32_i32_281
  let v301 : BitVec 32 := Scalar.subi v221 v300
  let c0_i32_303 : BitVec 32 := 0#32
  ![v301.toNat, 0]
def k0_dev15 (d0 : Dev nD) : Nat :=
  let c0_i32_302 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_20 : BitVec 32 := 1#32
  let v43 : BitVec 32 := Scalar.xori v29 c1_i32_20
  let v44 : BitVec 32 := Scalar.muli c4_i32_21 v43
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi v44 v12
  let c1_i32_301 : BitVec 32 := 1#32
  let v314 : BitVec 32 := Scalar.muli v45 c1_i32_301
  let v315 : BitVec 32 := Scalar.addi c0_i32_302 v314
  v315.toNat
def k0_off20 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_13 : BitVec 32 := 1#32
  let v33 : BitVec 32 := Scalar.shrsi v12 c1_i32_13
  let c32_i32_206 : BitVec 32 := 32#32
  let v232 : BitVec 32 := Scalar.muli v33 c32_i32_206
  let v233 : BitVec 32 := Scalar.addi v179 v232
  let c32_i32_297 : BitVec 32 := 32#32
  let v312 : BitVec 32 := Scalar.muli v33 c32_i32_297
  let v313 : BitVec 32 := Scalar.subi v233 v312
  let c0_i32_311 : BitVec 32 := 0#32
  ![v313.toNat, 0]
def k0_dev16 (d0 : Dev nD) : Nat :=
  let c0_i32_310 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v37 : BitVec 32 := Scalar.muli c4_i32_17 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v38 : BitVec 32 := Scalar.xori v12 c1_i32_18
  let v39 : BitVec 32 := Scalar.addi v37 v38
  let c1_i32_309 : BitVec 32 := 1#32
  let v322 : BitVec 32 := Scalar.muli v39 c1_i32_309
  let v323 : BitVec 32 := Scalar.addi c0_i32_310 v322
  v323.toNat
def k0_off21 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_15 : BitVec 32 := 1#32
  let v35 : BitVec 32 := Scalar.shrsi v29 c1_i32_15
  let c1_i32_16 : BitVec 32 := 1#32
  let v36 : BitVec 32 := Scalar.andi v35 c1_i32_16
  let c32_i32 : BitVec 32 := 32#32
  let v220 : BitVec 32 := Scalar.muli v36 c32_i32
  let v221 : BitVec 32 := Scalar.addi v167 v220
  let c32_i32_281 : BitVec 32 := 32#32
  let v300 : BitVec 32 := Scalar.muli v36 c32_i32_281
  let v301 : BitVec 32 := Scalar.subi v221 v300
  let c64_i32_328 : BitVec 32 := 64#32
  let v340 : BitVec 32 := Scalar.muli v34 c64_i32_328
  let v341 : BitVec 32 := Scalar.subi v301 v340
  let c0_i32_350 : BitVec 32 := 0#32
  ![v341.toNat, 0]
def k0_dev17 (d0 : Dev nD) : Nat :=
  let c0_i32_349 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v40 : BitVec 32 := Scalar.muli c4_i32_19 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v41 : BitVec 32 := Scalar.xori v12 c3_i32
  let v42 : BitVec 32 := Scalar.addi v40 v41
  let c1_i32_348 : BitVec 32 := 1#32
  let v354 : BitVec 32 := Scalar.muli v42 c1_i32_348
  let v355 : BitVec 32 := Scalar.addi c0_i32_349 v354
  v355.toNat
def k0_off22 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_13 : BitVec 32 := 1#32
  let v33 : BitVec 32 := Scalar.shrsi v12 c1_i32_13
  let c32_i32_206 : BitVec 32 := 32#32
  let v232 : BitVec 32 := Scalar.muli v33 c32_i32_206
  let v233 : BitVec 32 := Scalar.addi v179 v232
  let c32_i32_297 : BitVec 32 := 32#32
  let v312 : BitVec 32 := Scalar.muli v33 c32_i32_297
  let v313 : BitVec 32 := Scalar.subi v233 v312
  let c64_i32_344 : BitVec 32 := 64#32
  let v352 : BitVec 32 := Scalar.muli v32 c64_i32_344
  let v353 : BitVec 32 := Scalar.subi v313 v352
  let c0_i32_358 : BitVec 32 := 0#32
  ![v353.toNat, 0]
def k0_dev18 (d0 : Dev nD) : Nat :=
  let c0_i32_357 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32 : BitVec 32 := 2#32
  let v46 : BitVec 32 := Scalar.xori v29 c2_i32
  let v47 : BitVec 32 := Scalar.muli c4_i32_22 v46
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v48 : BitVec 32 := Scalar.addi v47 v12
  let c1_i32_356 : BitVec 32 := 1#32
  let v362 : BitVec 32 := Scalar.muli v48 c1_i32_356
  let v363 : BitVec 32 := Scalar.addi c0_i32_357 v362
  v363.toNat
def k0_off23 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32 : BitVec 32 := 256#32
  let v58 : BitVec 32 := Scalar.muli v32 c256_i32
  let v59 : BitVec 32 := Scalar.addi c0_i32_36 v58
  let c1_i32_13 : BitVec 32 := 1#32
  let v33 : BitVec 32 := Scalar.shrsi v12 c1_i32_13
  let c128_i32 : BitVec 32 := 128#32
  let v112 : BitVec 32 := Scalar.muli v33 c128_i32
  let v113 : BitVec 32 := Scalar.addi v59 v112
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c64_i32 : BitVec 32 := 64#32
  let v166 : BitVec 32 := Scalar.muli v34 c64_i32
  let v167 : BitVec 32 := Scalar.addi v113 v166
  let c1_i32_15 : BitVec 32 := 1#32
  let v35 : BitVec 32 := Scalar.shrsi v29 c1_i32_15
  let c1_i32_16 : BitVec 32 := 1#32
  let v36 : BitVec 32 := Scalar.andi v35 c1_i32_16
  let c32_i32 : BitVec 32 := 32#32
  let v220 : BitVec 32 := Scalar.muli v36 c32_i32
  let v221 : BitVec 32 := Scalar.addi v167 v220
  let c32_i32_281 : BitVec 32 := 32#32
  let v300 : BitVec 32 := Scalar.muli v36 c32_i32_281
  let v301 : BitVec 32 := Scalar.subi v221 v300
  let c64_i32_328 : BitVec 32 := 64#32
  let v340 : BitVec 32 := Scalar.muli v34 c64_i32_328
  let v341 : BitVec 32 := Scalar.subi v301 v340
  let c128_i32_375 : BitVec 32 := 128#32
  let v380 : BitVec 32 := Scalar.muli v33 c128_i32_375
  let v381 : BitVec 32 := Scalar.subi v341 v380
  let c0_i32_397 : BitVec 32 := 0#32
  ![v381.toNat, 0]
def k0_dev19 (d0 : Dev nD) : Nat :=
  let c0_i32_396 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v37 : BitVec 32 := Scalar.muli c4_i32_17 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v38 : BitVec 32 := Scalar.xori v12 c1_i32_18
  let v39 : BitVec 32 := Scalar.addi v37 v38
  let c1_i32_395 : BitVec 32 := 1#32
  let v394 : BitVec 32 := Scalar.muli v39 c1_i32_395
  let v395 : BitVec 32 := Scalar.addi c0_i32_396 v394
  v395.toNat
def k0_off24 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_14 : BitVec 32 := 1#32
  let v34 : BitVec 32 := Scalar.andi v29 c1_i32_14
  let c256_i32_47 : BitVec 32 := 256#32
  let v70 : BitVec 32 := Scalar.muli v34 c256_i32_47
  let v71 : BitVec 32 := Scalar.addi c512_i32 v70
  let c1_i32_15 : BitVec 32 := 1#32
  let v35 : BitVec 32 := Scalar.shrsi v29 c1_i32_15
  let c1_i32_16 : BitVec 32 := 1#32
  let v36 : BitVec 32 := Scalar.andi v35 c1_i32_16
  let c128_i32_100 : BitVec 32 := 128#32
  let v124 : BitVec 32 := Scalar.muli v36 c128_i32_100
  let v125 : BitVec 32 := Scalar.addi v71 v124
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c64_i32_153 : BitVec 32 := 64#32
  let v178 : BitVec 32 := Scalar.muli v32 c64_i32_153
  let v179 : BitVec 32 := Scalar.addi v125 v178
  let c1_i32_13 : BitVec 32 := 1#32
  let v33 : BitVec 32 := Scalar.shrsi v12 c1_i32_13
  let c32_i32_206 : BitVec 32 := 32#32
  let v232 : BitVec 32 := Scalar.muli v33 c32_i32_206
  let v233 : BitVec 32 := Scalar.addi v179 v232
  let c32_i32_297 : BitVec 32 := 32#32
  let v312 : BitVec 32 := Scalar.muli v33 c32_i32_297
  let v313 : BitVec 32 := Scalar.subi v233 v312
  let c64_i32_344 : BitVec 32 := 64#32
  let v352 : BitVec 32 := Scalar.muli v32 c64_i32_344
  let v353 : BitVec 32 := Scalar.subi v313 v352
  let c128_i32_391 : BitVec 32 := 128#32
  let v392 : BitVec 32 := Scalar.muli v36 c128_i32_391
  let v393 : BitVec 32 := Scalar.subi v353 v392
  let c0_i32_405 : BitVec 32 := 0#32
  ![v393.toNat, 0]
def k0_dev20 (d0 : Dev nD) : Nat :=
  let c0_i32_404 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_20 : BitVec 32 := 1#32
  let v43 : BitVec 32 := Scalar.xori v29 c1_i32_20
  let v44 : BitVec 32 := Scalar.muli c4_i32_21 v43
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi v44 v12
  let c1_i32_403 : BitVec 32 := 1#32
  let v402 : BitVec 32 := Scalar.muli v45 c1_i32_403
  let v403 : BitVec 32 := Scalar.addi c0_i32_404 v402
  v403.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S16x1024x512 : Shape := ⟨3, ![16, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x512, .f32⟩
  | .hbm, ⟨2, _⟩ => ⟨S_, .f32⟩
  | .hbm, ⟨3, _⟩ => ⟨S1024x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cube.lean ====
/-
# The sixteen devices as a four-dimensional cube, and the halving of the rows

Nothing here is about a program. A device has four coordinate bits; a partner along one of them differs in that bit
only. The two groups of rows (the upper and the lower half of the array) walk the four bits in two different orders,
and each step halves the rows a device keeps.
-/
module

public import Mathlib.Algebra.BigOperators.Fin
public import Mathlib.Data.List.FinRange
public import Mathlib.Data.Fin.VecNotation
public import Mathlib.Data.Fintype.Basic
public import Mathlib.Tactic.Ring
public import Mathlib.Algebra.BigOperators.Group.List.Basic

@[expose] public section

namespace Cert.Cube

/-- Which bits of a device's number change on the way to its partner along each of the four dimensions. -/
def mask : Fin 4 → Fin 16 := ![1, 3, 4, 8]

/-- The partner of device `c` along dimension `d`. -/
def flip (d : Fin 4) (c : Fin 16) : Fin 16 := c ^^^ mask d

/-- The coordinate bit of device `c` along dimension `d`. -/
def bit (d : Fin 4) (c : Fin 16) : ℕ :=
  ![(c.val % 2 + c.val / 2 % 2) % 2, c.val / 2 % 2, c.val / 4 % 2, c.val / 8 % 2] d

/-- The dimension that group `g` of the rows uses at its step `n`. -/
def ord (g : Fin 2) (n : ℕ) : Fin 4 := ⟨(n + 2 * g.val) % 4, Nat.mod_lt _ (by decide)⟩

/-- The partner of device `c` in group `g`'s step `n`. -/
def pt (g : Fin 2) (n : ℕ) (c : Fin 16) : Fin 16 := flip (ord g n) c

/-- How many rows of a group a device still keeps after `n` steps. -/
def sz (n : ℕ) : ℕ := 512 / 2 ^ n

/-- The first row device `c` keeps of group `g` after `n` steps. -/
def kb (g : Fin 2) : ℕ → Fin 16 → ℕ
  | 0, _ => 512 * g.val
  | n + 1, c => kb g n c + bit (ord g n) c * sz (n + 1)

/-- The partner's partner is the device itself. -/
theorem flip_flip (d : Fin 4) (c : Fin 16) : flip d (flip d c) = c := by revert d c; decide +kernel

/-- The partner's partner is the device itself. -/
theorem pt_pt (g : Fin 2) (n : ℕ) (c : Fin 16) : pt g n (pt g n c) = c := flip_flip _ _

/-- Taking partners along one dimension, as a permutation of the devices. -/
def flipE (d : Fin 4) : Fin 16 ≃ Fin 16 := ⟨flip d, flip d, flip_flip d, flip_flip d⟩

/-- Before a step the partners keep the same rows. -/
theorem kb_pt (g : Fin 2) (k : Fin 4) (c : Fin 16) : kb g k (pt g k c) = kb g k c := by revert g k c; decide +kernel

/-- A step cuts the rows in two halves, one for each of the partners. -/
theorem kb_split (g : Fin 2) (k : Fin 4) (c : Fin 16) :
    (kb g (k + 1) c = kb g k c ∧ kb g (k + 1) (pt g k c) = kb g k c + sz (k + 1))
      ∨ (kb g (k + 1) (pt g k c) = kb g k c ∧ kb g (k + 1) c = kb g k c + sz (k + 1)) := by
  revert g k c; decide +kernel

/-- The rows of a step are twice those of the next. -/
theorem sz_split (k : Fin 4) : sz k = sz (k + 1) + sz (k + 1) := by revert k; decide +kernel

/-- The rows kept lie in the array. -/
theorem kb_le (g : Fin 2) (k : Fin 4) (c : Fin 16) : kb g (k + 1) c + sz (k + 1) ≤ 1024 := by
  revert g k c; decide +kernel

/-- The group a row belongs to. -/
def grp (r : ℕ) : Fin 2 := if r < 512 then 0 else 1

/-- The device that ends up with row `r` after its group's four halvings. -/
def owner (r : ℕ) : Fin 16 :=
  ((List.finRange 16).find? fun c => kb (grp (r / 32 * 32)) 4 c == r / 32 * 32).getD 0

/-- The first row a device keeps is its own, starts a block of 32 rows and lies in its group. -/
theorem owner_base : ∀ (g : Fin 2) (c : Fin 16),
    owner (kb g 4 c) = c ∧ kb g 4 c % 32 = 0 ∧ (g = 0 → kb g 4 c + 32 ≤ 512) ∧ (g = 1 → 512 ≤ kb g 4 c) := by
  decide +kernel

/-- The rows a device keeps after four steps are its own. -/
theorem owner_eq (g : Fin 2) (c : Fin 16) {r : ℕ} (h0 : kb g 4 c ≤ r) (h1 : r < kb g 4 c + sz 4) :
    owner r = c ∧ grp r = g := by
  obtain ⟨ho, hm, hg0, hg1⟩ := owner_base g c
  have h32 : sz 4 = 32 := by decide
  rw [h32] at h1
  constructor
  · have : r / 32 * 32 = kb g 4 c / 32 * 32 := by omega
    rw [← ho]; unfold owner; rw [this]
  · unfold grp
    match g with
    | 0 => have := hg0 rfl; rw [if_pos (by omega)]
    | 1 => have := hg1 rfl; rw [if_neg (by omega)]

section Acc

variable {V : Type} (add : V → V → V)

/-- What device `c` holds after `n` steps of group `g` when every step adds the partner's value to its own. -/
def acc (X : Fin 16 → V) (g : Fin 2) : ℕ → Fin 16 → V
  | 0, c => X c
  | n + 1, c => add (acc X g n c) (acc X g n (pt g n c))

/-- The devices whose values device `c` has collected after `n` steps. -/
def seen (g : Fin 2) : ℕ → Fin 16 → List (Fin 16)
  | 0, c => [c]
  | n + 1, c => seen g n c ++ seen g n (pt g n c)

/-- After four steps every device has been collected once. -/
theorem seen_perm (g : Fin 2) (c : Fin 16) : (seen g 4 c).Perm (List.finRange 16) := by
  revert g c; decide +kernel

/-- The value after `n` steps is the sum over the devices collected. -/
theorem acc_eq_sum_seen [AddCommMonoid V] (X : Fin 16 → V) (g : Fin 2) (n : ℕ) (c : Fin 16) :
    acc (· + ·) X g n c = ((seen g n c).map X).sum := by
  induction n generalizing c with
  | zero => simp [acc, seen]
  | succ n ih => simp only [acc, seen, List.map_append, List.sum_append, ih]

/-- In a commutative monoid the four steps of either group collect the sum over all sixteen devices. -/
theorem acc_eq_sum [AddCommMonoid V] (X : Fin 16 → V) (g : Fin 2) (c : Fin 16) :
    acc (· + ·) X g 4 c = ∑ d, X d := by
  rw [acc_eq_sum_seen, Fin.sum_univ_def]
  exact ((seen_perm g c).map X).sum_eq

end Acc

end Cert.Cube
-- ==== Proof.KernelIdeal.Protocol.lean ====
/-
# The exchange protocol of the all-reduce: buffers, contents, semaphore cells and what each landing hands over

Every device first tells its four partners that it has entered (the barrier semaphore), handing each of them the
landing buffers and the part of its result buffer that partner will write. Then, for each of the two groups of rows,
four halving steps (a device sends the half it gives up into its partner's landing buffer and adds what it received to
the half it keeps) and four doubling steps (a device sends the rows it has finished straight into its partner's result
buffer). The module states the contents of the buffers at each step and the schedule of the semaphore cells.
-/
module

public import proofs.«01_k».proof.Proof.Cube
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are the four dimensions -/

abbrev UX : Type := URounds (GSem nD τ sig) (Fin 4)
/-- The ghost state: the pipeline's part and the exchange's. -/
abbrev UU : Type := UR sig nD τ × UX

local notation "𝕄" => MT nD τ sig Unit (Elt F) ℕ UU ℕ

/-- Where the pipeline's part lies in it, -/
abbrev EP : Emb (UR sig nD τ) (MT nD τ sig Unit (Elt F) ℕ UU ℕ) := embL
/-- and where the exchange's does. -/
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers -/

abbrev xM : Memref sig .tc .vmem S1024x512 .f32 := Memref.whole cc0_stg0_0
/-- The result staging buffer. -/
abbrev oM : Memref sig .tc .vmem S1024x512 .f32 := Memref.whole cc0_stg1_0

/-- The landing buffer of group `g`'s halving step `k`. -/
def commM : (g : Fin 2) → (k : Fin 4) → Memref sig .tc .vmem ⟨2, ![sz (k.val + 1), 512]⟩ .f32
  | 0, 0 => Memref.whole cc0_scratch0
  | 0, 1 => Memref.whole cc0_scratch1
  | 0, 2 => Memref.whole cc0_scratch2
  | 0, 3 => Memref.whole cc0_scratch3
  | 1, 0 => Memref.whole cc0_scratch4
  | 1, 1 => Memref.whole cc0_scratch5
  | 1, 2 => Memref.whole cc0_scratch6
  | 1, 3 => Memref.whole cc0_scratch7

/-- The credit of a transfer of the rows of step `k`. -/
def N (k : Fin 4) : ℕ := (commM 0 k).view.dmaCredit

/-- Both groups' landing buffers of a step have the same credit; -/
theorem commM_credit (g : Fin 2) (k : Fin 4) : (commM g k).view.dmaCredit = N k := by
  fin_cases g <;> fin_cases k <;> rfl

/-- and it is positive. -/
theorem N_pos (k : Fin 4) : 0 < N k := View.dmaCredit_pos _ (by revert k; decide +kernel)

/-! ## Rows and contents -/

/-- The elements of rows `a` to `a + h`. -/
def rows (a h : ℕ) : Finset S1024x512.Idx := Finset.univ.filter fun i => a ≤ (i 0).val ∧ (i 0).val < a + h

/-- An element lies in rows `a` to `a + h` if its row does. -/
theorem mem_rows {a h : ℕ} {i : S1024x512.Idx} : i ∈ rows a h ↔ a ≤ (i 0).val ∧ (i 0).val < a + h := by
  unfold rows; rw [Finset.mem_filter]; exact ⟨fun h => h.2, fun h => ⟨Finset.mem_univ _, h⟩⟩

/-- An array's contents from a value for each row and column. -/
def full (v : ℕ → ℕ → Elt F .f32) : S1024x512.Idx → Elt F .f32 := fun i => v (i 0).val (i 1).val

/-- Rows `a` to `a + h` of device `c`'s input buffer, holding `v`. -/
def xRows (c : Dev nD) (a h : ℕ) (v : ℕ → ℕ → Elt F .f32) : sProp 𝕄 :=
  ((c : Thread nD τ).loc cc0_stg0_0) ↦[rows a h]{fullShare} full v
/-- Rows `a` to `a + h` of device `c`'s result buffer, holding `v`. -/
def oRows (c : Dev nD) (a h : ℕ) (v : ℕ → ℕ → Elt F .f32) : sProp 𝕄 :=
  ((c : Thread nD τ).loc cc0_stg1_0) ↦[rows a h]{fullShare} full v
/-- The same rows holding anything. -/
def oAny (c : Dev nD) (a h : ℕ) : sProp 𝕄 :=
  iprop(∃ f : Buf (Elt F) ((c : Thread nD τ).loc cc0_stg1_0), ((c : Thread nD τ).loc cc0_stg1_0) ↦[rows a h]{fullShare} f)
/-- Device `c`'s landing buffer of step `k` of group `g`, holding `v`; -/
def commPts (c : Dev nD) (g : Fin 2) (k : Fin 4) (v : ℕ → ℕ → Elt F .f32) : sProp 𝕄 :=
  owns (c : Thread nD τ) (commM g k) fullShare (fun i => v (i 0).val (i 1).val)
/-- and holding anything. -/
def commAny (c : Dev nD) (g : Fin 2) (k : Fin 4) : sProp 𝕄 :=
  iprop(∃ f : Buf (Elt F) ((commM g k).view.loc (c : Thread nD τ)), (commM g k).view.loc (c : Thread nD τ) ↦[(commM g k).view.set]{fullShare} f)

/-- What device `c`'s input staging buffer holds: its block of the input, -/
def xstg (c : Dev nD) : S1024x512.Idx → Elt F .f32 :=
  (win0_0.blk (0 : Fin 1)).view.read (Elt F) ((s₀ m ρ).mem ((c : Thread nD τ).loc main_arg0))

/-- row `r`, column `s` of it. -/
def X (r s : ℕ) (c : Fin 16) : Elt F .f32 :=
  xstg m ρ c (fun a => ⟨(![r, s] a) % S1024x512.size a, Nat.mod_lt _ (by revert a; decide)⟩)

/-- What device `c` holds at row `r`, column `s` of group `g` after `n` halving steps. -/
def A (g : Fin 2) (n : ℕ) (c : Dev nD) (r s : ℕ) : Elt F .f32 := acc FloatOps.addf (X m ρ r s) g n c

/-- The finished value at row `r`, column `s`: the same on every device. -/
def OUT (r s : ℕ) : Elt F .f32 := acc FloatOps.addf (X m ρ r s) (grp r) 4 (owner r)

/-- The input values row by row are the input buffer. -/
theorem full_X (c : Dev nD) : full (fun r s => X m ρ r s c) = xstg m ρ c := by
  funext i
  unfold full X
  refine congrArg _ (funext fun a => Fin.ext ?_)
  fin_cases a
  · exact Nat.mod_eq_of_lt (i 0).isLt
  · exact Nat.mod_eq_of_lt (i 1).isLt

/-! ## Semaphore cells -/

/-- The barrier semaphore of the exchange. -/
abbrev barS : Sem sig := (SemArray.scalar (sig.barrier 0 rfl) : Sems sig S_).sem

/-- A transfer's name: its group, whether it is a doubling step, and the halving step it is or undoes. -/
abbrev Slot : Type := Fin 2 × Bool × Fin 4
/-- A device's cells: the barrier, and for each transfer the sender's (`false`) and the receiver's (`true`). -/
abbrev CellIx : Type := Option (Bool × Slot)

/-- A transfer's semaphore's place in its array of eight. -/
def place (ph : Bool) (k : Fin 4) : ℕ := if ph then 7 - k.val else k.val

/-- Each place is one of the eight. -/
theorem place_lt (ph : Bool) (k : Fin 4) : place ph k < 8 := by revert ph k; decide

/-- The DMA semaphore of a transfer, at the sender or the receiver. -/
def dsem (r : Bool) (s : Slot) : DmaSem sig :=
  ⟨(if r then 18 else 2) + (8 * s.1.val + place s.2.1 s.2.2), by
    have h := place_lt s.2.1 s.2.2; have h2 := s.1.isLt; show _ < 34; split <;> omega⟩

/-- The semaphore of a device's cell, -/
def csem : CellIx → SemLoc sig
  | none => .reg barS
  | some (r, s) => .dma (dsem r s)

/-- and the cell on device `c`. -/
def kcell (c : Dev nD) (i : CellIx) : GSem nD τ sig := ((c : Thread nD τ), csem i)

/-- Which cell a semaphore is, if it is one of the exchange's. -/
def slotOf : SemLoc sig → Option CellIx
  | .reg _ => some none
  | .dma q => if q.val < 2 then none
      else
        let r := decide (18 ≤ q.val)
        let j := (q.val - 2) % 8
        some (some (r, (if (q.val - 2) / 8 % 2 = 0 then 0 else 1), decide (4 ≤ j), ⟨(if 4 ≤ j then 7 - j else j) % 4, Nat.mod_lt _ (by decide)⟩))

/-- A cell is found again from its semaphore. -/
theorem slotOf_csem (i : CellIx) : slotOf (csem i) = some i := by revert i; decide +kernel

/-- Different cells have different semaphores; -/
theorem csem_injective : Function.Injective csem := fun i j h => by
  have := (slotOf_csem i).symm.trans ((congrArg slotOf h).trans (slotOf_csem j)); exact Option.some.inj this

/-- different cells of all devices are different. -/
theorem kcell_injective : Function.Injective fun ci : Dev nD × CellIx => kcell ci.1 ci.2 := by
  rintro ⟨c, i⟩ ⟨c', i'⟩ h
  have h1 : c = c' := congrArg (fun g : GSem nD τ sig => g.1.1) h
  have h2 : i = i' := csem_injective (congrArg Prod.snd h)
  subst h1; subst h2; rfl

/-- What a payment into a cell is worth. -/
def amt : CellIx → ℕ
  | none => 1
  | some (_, s) => N s.2.2

/-- Every payment is positive. -/
theorem amt_pos (i : CellIx) : 0 < amt i := by
  rcases i with _ | ⟨r, s⟩
  · exact Nat.one_pos
  · exact N_pos _

/-! ## What each landing hands over -/

/-- What the partner along dimension `d` hands over when it enters: its landing buffers of the two steps along `d`, and
    the rows of its result buffer given up at a first step along `d`. -/
def barPay (c : Dev nD) (d : Fin 4) : sProp 𝕄 :=
  iprop(commAny (flip d c) 0 d ∗ commAny (flip d c) 1 (d + 2)
    ∗ (if d = 0 then oAny (flip d c) (kb 0 1 c) (sz 1) else if d = 2 then oAny (flip d c) (kb 1 1 c) (sz 1) else iprop(emp)))

/-- What comes back to the sender when its source has been read: the input rows of a first halving step, the result
    rows of a doubling step; the result rows of the other halving steps go to the receiver. -/
def sendPay (c : Dev nD) (s : Slot) : sProp 𝕄 :=
  if s.2.1 then oRows c (kb s.1 (s.2.2 + 1) c) (sz (s.2.2 + 1)) (OUT m ρ)
  else if s.2.2 = 0 then xRows c (kb s.1 1 (pt s.1 0 c)) (sz 1) (fun r t => X m ρ r t c) else iprop(emp)

/-- What a landing gives the receiver: at a halving step its landing buffer holding the partner's half and, but for the
    first step, that half of the partner's result buffer; at a doubling step the partner's finished rows. -/
def recvPay (c : Dev nD) (s : Slot) : sProp 𝕄 :=
  if s.2.1 then oRows c (kb s.1 (s.2.2 + 1) (pt s.1 s.2.2 c)) (sz (s.2.2 + 1)) (OUT m ρ)
  else iprop(commPts c s.1 s.2.2 (fun r t => A m ρ s.1 s.2.2 (pt s.1 s.2.2 c) (kb s.1 (s.2.2 + 1) c + r) t)
    ∗ (if s.2.2 = 0 then iprop(emp) else oAny (pt s.1 s.2.2 c) (kb s.1 (s.2.2 + 1) c) (sz (s.2.2 + 1))))

/-- What a cell's payment hands over. -/
def pay (c : Dev nD) : CellIx → Fin 4 → sProp 𝕄
  | none, d => barPay c d
  | some (false, s), _ => sendPay m ρ c s
  | some (true, s), _ => recvPay m ρ c s

/-- The duties of a cell: one for each partner on the barrier, one on a transfer's cell. -/
def dutiesOf : CellIx → Finset (Fin 4)
  | none => Finset.univ
  | some _ => {0}

/-- One round on every cell of the exchange. -/
def Rd : Rounds.Schedule (GSem nD τ sig) (Fin 4) 𝕄 where
  duties g r := if r = 0 ∧ g.1.2 = .tc then (match slotOf g.2 with | some i => dutiesOf i | none => ∅) else ∅
  unitless _ := False
  amount g _ _ := match slotOf g.2 with | some i => amt i | none => 1
  payload g _ d := match slotOf g.2 with | some i => pay m ρ g.1.1 i d | none => iprop(emp)
  amount_pos g _ _ _ := by
    cases slotOf g.2 with
    | none => exact Nat.one_pos
    | some i => exact amt_pos i

omit [FloatOps F] in
instance xRows_storable (c : Dev nD) (a h : ℕ) (v) : BI.Storable (upEmb : UEmb _ 𝕄) (xRows (F := F) c a h v) := by unfold xRows; infer_instance
omit [FloatOps F] in
instance oRows_storable (c : Dev nD) (a h : ℕ) (v) : BI.Storable (upEmb : UEmb _ 𝕄) (oRows (F := F) c a h v) := by unfold oRows; infer_instance
omit [FloatOps F] in
instance oAny_storable (c : Dev nD) (a h : ℕ) : BI.Storable (upEmb : UEmb _ 𝕄) (oAny (F := F) c a h) := by unfold oAny; infer_instance
omit [FloatOps F] in
instance commPts_storable (c : Dev nD) (g k) (v) : BI.Storable (upEmb : UEmb _ 𝕄) (commPts (F := F) c g k v) := by unfold commPts; infer_instance
omit [FloatOps F] in
instance commAny_storable (c : Dev nD) (g k) : BI.Storable (upEmb : UEmb _ 𝕄) (commAny (F := F) c g k) := by unfold commAny; infer_instance

instance pay_storable (c : Dev nD) (i : CellIx) (d : Fin 4) : BI.Storable (upEmb : UEmb _ 𝕄) (pay (F := F) m ρ c i d) := by
  rcases i with _ | ⟨_ | _, g, ph, k⟩
  · show BI.Storable _ (barPay c d); unfold barPay; (repeat' split) <;> infer_instance
  · show BI.Storable _ (sendPay m ρ c (g, ph, k)); unfold sendPay; (repeat' split) <;> infer_instance
  · show BI.Storable _ (recvPay m ρ c (g, ph, k)); unfold recvPay; (repeat' split) <;> infer_instance

instance Rd_payload_storable (g : GSem nD τ sig) (r : ℕ) (d : Fin 4) : BI.Storable (upEmb : UEmb _ 𝕄) ((Rd (F := F) m ρ).payload g r d) := by
  show BI.Storable upEmb (match slotOf g.2 with | some i => pay m ρ g.1.1 i d | none => iprop(emp))
  split <;> infer_instance

/-- In round 0 a cell has its duties, -/
theorem Rd_duties (c : Dev nD) (i : CellIx) : (Rd (F := F) m ρ).duties (kcell c i) 0 = dutiesOf i := by
  dsimp only [Rd]; rw [if_pos ⟨rfl, rfl⟩]; show (match slotOf (csem i) with | some i => dutiesOf i | none => ∅) = _; rw [slotOf_csem]

/-- and none later. -/
theorem Rd_duties_later (g : GSem nD τ sig) : ∀ r, 1 ≤ r → (Rd (F := F) m ρ).duties g r = ∅ :=
  fun r hr => by dsimp only [Rd]; rw [if_neg fun h => by omega]

/-- Each duty pays the amount of its cell. -/
theorem Rd_amount (c : Dev nD) (i : CellIx) (d : Fin 4) : (Rd (F := F) m ρ).amount (kcell c i) 0 d = amt i := by
  show (match slotOf (csem i) with | some i => amt i | none => 1) = _; rw [slotOf_csem]

/-- Each duty hands over what its cell says. -/
theorem Rd_payload (c : Dev nD) (i : CellIx) (d : Fin 4) : (Rd (F := F) m ρ).payload (kcell c i) 0 d = pay m ρ c i d := by
  show (match slotOf (csem i) with | some i => pay m ρ c i d | none => iprop(emp)) = _; rw [slotOf_csem]

/-- The barrier expects four units; -/
theorem Rd_expect_bar (c : Dev nD) : (Rd (F := F) m ρ).expect (kcell c none) 0 = 4 := by
  unfold Schedule.expect Schedule.amountOf
  rw [Rd_duties, Finset.sum_congr rfl fun d _ => Rd_amount m ρ c none d]; rfl

/-- a transfer's cell expects its credit. -/
theorem Rd_expect (c : Dev nD) (r : Bool) (s : Slot) : (Rd (F := F) m ρ).expect (kcell c (some (r, s))) 0 = N s.2.2 := by
  unfold Schedule.expect Schedule.amountOf
  rw [Rd_duties, Finset.sum_congr rfl fun d _ => Rd_amount m ρ c (some (r, s)) d]; exact Finset.sum_singleton _ _

/-- Waiting out a transfer's cell gives its one payload; -/
theorem rest_eq (c : Dev nD) (r : Bool) (s : Slot) :
    bigSep ((Rd (F := F) m ρ).duties (kcell c (some (r, s))) 0 \ ∅) (fun d => (Rd (F := F) m ρ).payload (kcell c (some (r, s))) 0 d)
      = pay m ρ c (some (r, s)) 0 := by
  rw [Finset.sdiff_empty, Rd_duties, bigSep_congr (fun d _ => Rd_payload m ρ c (some (r, s)) d)]; exact bigSep_singleton

/-- waiting out the barrier gives all four. -/
theorem rest_bar (c : Dev nD) :
    bigSep ((Rd (F := F) m ρ).duties (kcell c none) 0 \ ∅) (fun d => (Rd (F := F) m ρ).payload (kcell c none) 0 d)
      = iprop(barPay c 0 ∗ barPay c 1 ∗ barPay c 2 ∗ barPay c 3) := by
  rw [Finset.sdiff_empty, Rd_duties, bigSep_congr (fun d _ => Rd_payload m ρ c none d)]
  exact bigSep_univ_eq_bigSepL [0, 1, 2, 3] (by decide) (by decide) _

/-! ## What each device owes, in the order in which it pays; the levels -/

/-- A payment: an entry signal along a dimension, or a transfer. -/
abbrev Pay : Type := Fin 4 ⊕ Slot

/-- The cell a device's payment goes to. -/
def target (c : Dev nD) : Pay → GSem nD τ sig
  | .inl d => kcell (flip d c) none
  | .inr s => kcell (pt s.1 s.2.2 c) (some (true, s))

/-- How much a payment pays. -/
def worth : Pay → ℕ
  | .inl _ => 1
  | .inr s => N s.2.2

/-- A device's debt while the payments of a list are still to be made, the first of them next. -/
def owing (c : Dev nD) : List Pay → CellTallies nD τ sig Unit
  | [] => 0
  | p :: l => owing c l + tallyAt (target c p) () (worth p)

/-- All payments, in program order. -/
def payments : List Pay :=
  [.inl 0, .inl 1, .inl 2, .inl 3,
    .inr (0, false, 0), .inr (1, false, 0), .inr (0, false, 1), .inr (1, false, 1),
    .inr (0, false, 2), .inr (1, false, 2), .inr (0, false, 3), .inr (1, false, 3),
    .inr (0, true, 3), .inr (1, true, 3), .inr (0, true, 2), .inr (1, true, 2),
    .inr (0, true, 1), .inr (1, true, 1), .inr (0, true, 0), .inr (1, true, 0)]

/-- What device `c` owes at launch. -/
def O₀ (c : Dev nD) : CellTallies nD τ sig Unit := owing c payments

/-- Every cell of the cores has a level, -/
def L (g : GSem nD τ sig) : Finset Unit := if g.1.2 = .tc then {()} else ∅

/-- The level of a cell: staging and sender's cells lowest, then the barrier, then the receiver's cells in step order. -/
def level : CellIx → ℕ
  | none => 1
  | some (false, _) => 0
  | some (true, s) => 2 + place s.2.1 s.2.2

/-- which is this one. -/
def lv (g : GSem nD τ sig) (_ : Unit) : ℕ := match slotOf g.2 with | some i => level i | none => 0

/-- The level of the cell a payment goes to. -/
def plevel : Pay → ℕ
  | .inl _ => 1
  | .inr s => 2 + place s.2.1 s.2.2

/-- Cells of other threads have none. -/
theorem L_of_ne (g : GSem nD τ sig) (h : g.1.2 ≠ .tc) : L g = ∅ := if_neg h
/-- The set of levels of a cell of a core. -/
theorem L_tc (c : Dev nD) (sm : SemLoc sig) : L ((c : Thread nD τ), sm) = {()} := if_pos rfl

/-- The level of a cell of the exchange; -/
theorem lv_kcell (c : Dev nD) (i : CellIx) (u : Unit) : lv (kcell c i) u = level i := by
  show (match slotOf (csem i) with | some i => level i | none => 0) = _; rw [slotOf_csem]

/-- of the cell a payment goes to. -/
theorem lv_target (c : Dev nD) (p : Pay) (u : Unit) : lv (target c p) u = plevel p := by
  rcases p with d | s
  · exact lv_kcell _ _ _
  · exact lv_kcell _ _ _

/-- A cell to which something is owed is the target of a payment still to be made. -/
theorem owing_pos {c : Dev nD} {l : List Pay} {g : GSem nD τ sig} {u : Unit} (h : 0 < owing c l g u) : ∃ p ∈ l, g = target c p := by
  induction l with
  | nil => exact absurd h (Nat.lt_irrefl 0)
  | cons p l ih =>
    unfold owing at h
    rw [Pi.add_apply, Finsupp.add_apply, tallyAt_apply] at h
    by_cases hg : g = target c p
    · exact ⟨p, List.mem_cons_self, hg⟩
    · rw [if_neg (fun h' => hg h'.1), Nat.add_zero] at h
      obtain ⟨q, hq, e⟩ := ih h
      exact ⟨q, List.mem_cons_of_mem _ hq, e⟩

/-- A wait at level `n` is allowed while every payment still owed goes to a higher cell. -/
theorem mayWait (c : Dev nD) (sm : SemLoc sig) (l : List Pay) (n : ℕ) (hn : lv ((c : Thread nD τ), sm) () ≤ n)
    (hl : ∀ p ∈ l, n < plevel p) : (levAts L lv : sProp 𝕄) ⊢ MayWait (c : Thread nD τ) sm () (owing c l) :=
  MayOwe.of_cut (L := L) (lev := lv) n (fun p hp => by rw [Finset.mem_singleton.mp hp, L_tc]; exact Finset.mem_singleton_self _)
    (fun g u hg => by
      obtain ⟨p, -, rfl⟩ := owing_pos hg
      rcases p with d | s <;> exact Finset.mem_singleton_self _)
    (fun p hp => by rw [Finset.mem_singleton.mp hp]; exact hn)
    (fun g u hg => by
      obtain ⟨p, hp, rfl⟩ := owing_pos hg
      rw [lv_target]; exact hl p hp)

end Cert.KernelIdealProof

end
-- ==== Proof.KernelIdeal.Regions.lean ====
/-
# Rows of the input and result buffers: windows, cutting and joining

The set of elements under a window of rows, what a window reads and writes, and how the rows a device holds after a
halving step are cut into the half it keeps and the half it gives up, and joined again by the doubling step.
-/
module

public import proofs.«01_k».proof.Proof.KernelIdeal.Protocol
public import Idealize.ShloMosaic.Lib.VecWindow

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rectangle of `h` rows of 512 columns at `off`. -/
abbrev rowRect (off : Fin 2 → ℕ) (h : ℕ) (inb : ∀ a, off a + (![h, 512] : Fin 2 → ℕ) a ≤ S1024x512.size a) : Rect S1024x512 :=
  Rect.unit (s := S1024x512) off ![h, 512] inb

/-- The elements of a rectangle of whole rows are those rows; -/
theorem rowRect_set {off : Fin 2 → ℕ} {a h : ℕ} (inb) (hoff : off = ![a, 0]) : (rowRect off h inb).set = rows a h := by
  subst hoff
  ext i
  rw [Rect.mem_set_unit, mem_rows]
  constructor
  · intro H; exact H 0
  · intro H b
    match b with
    | ⟨0, _⟩ => exact H
    | ⟨1, _⟩ => exact ⟨Nat.zero_le _, by have := (i 1).isLt; show (i 1).val < 0 + 512; rw [Nat.zero_add]; exact this⟩

/-- reading contents given by row and column through it shifts the row. -/
theorem rowRect_full {off : Fin 2 → ℕ} {a h : ℕ} (inb) (hoff : off = ![a, 0]) (v : ℕ → ℕ → Elt F .f32) (i) :
    full v ((rowRect off h inb).idx i) = v (a + (i 0).val) (i 1).val := by
  subst hoff
  show v (a + 1 * (i 0).val) (0 + 1 * (i 1).val) = _
  rw [Nat.one_mul, Nat.one_mul, Nat.zero_add]

/-- The rows held before a halving step are those kept and those given up, -/
theorem rows_split (g : Fin 2) (k : Fin 4) (c : Fin 16) :
    rows (kb g k c) (sz k) = rows (kb g (k + 1) c) (sz (k + 1)) ∪ rows (kb g (k + 1) (pt g k c)) (sz (k + 1)) := by
  ext i
  have h2 := sz_split k
  rw [Finset.mem_union, mem_rows, mem_rows, mem_rows]
  rcases kb_split g k c with ⟨h, h'⟩ | ⟨h, h'⟩ <;> rw [h, h'] <;> omega

/-- which are disjoint. -/
theorem rows_disjoint (g : Fin 2) (k : Fin 4) (c : Fin 16) :
    Disjoint (rows (kb g (k + 1) c) (sz (k + 1))) (rows (kb g (k + 1) (pt g k c)) (sz (k + 1))) := by
  rw [Finset.disjoint_left]
  intro i
  rw [mem_rows, mem_rows]
  rcases kb_split g k c with ⟨h, h'⟩ | ⟨h, h'⟩ <;> rw [h, h'] <;> omega

/-- The array is the two groups' rows, -/
theorem rows_univ (c : Fin 16) : (Finset.univ : Finset S1024x512.Idx) = rows (kb 0 0 c) (sz 0) ∪ rows (kb 1 0 c) (sz 0) := by
  ext i
  have h2 : (i 0).val < 1024 := (i 0).isLt
  rw [Finset.mem_union, mem_rows, mem_rows, show kb 0 0 c = 0 from rfl, show kb 1 0 c = 512 from rfl, show sz 0 = 512 from rfl]
  constructor
  · intro _; omega
  · intro _; exact Finset.mem_univ _

/-- which are disjoint. -/
theorem rows_disjoint_groups (c : Fin 16) : Disjoint (rows (kb 0 0 c) (sz 0)) (rows (kb 1 0 c) (sz 0)) := by
  rw [Finset.disjoint_left]
  intro i
  rw [mem_rows, mem_rows, show kb 0 0 c = 0 from rfl, show kb 1 0 c = 512 from rfl, show sz 0 = 512 from rfl]
  omega

omit [FloatOps F] in
/-- So rows of the input buffer split into those kept and those given up, -/
theorem xRows_split (c : Dev nD) (g : Fin 2) (k : Fin 4) (v : ℕ → ℕ → Elt F .f32) :
    (xRows c (kb g k c) (sz k) v : sProp 𝕄) ⊣⊢ iprop(xRows c (kb g (k + 1) c) (sz (k + 1)) v ∗ xRows c (kb g (k + 1) (pt g k c)) (sz (k + 1)) v) := by
  unfold xRows; rw [rows_split]; exact pointsTo_union (rows_disjoint g k c)

omit [FloatOps F] in
/-- and those of the result buffer. -/
theorem oRows_split (c : Dev nD) (g : Fin 2) (k : Fin 4) (v : ℕ → ℕ → Elt F .f32) :
    (oRows c (kb g k c) (sz k) v : sProp 𝕄) ⊣⊢ iprop(oRows c (kb g (k + 1) c) (sz (k + 1)) v ∗ oRows c (kb g (k + 1) (pt g k c)) (sz (k + 1)) v) := by
  unfold oRows; rw [rows_split]; exact pointsTo_union (rows_disjoint g k c)

omit [FloatOps F] in
/-- The input buffer whole is its four quarters: for each group, the half kept at the first step and the half given up. -/
theorem x_quarters (c : Dev nD) (v : ℕ → ℕ → Elt F .f32) :
    (((c : Thread nD τ).loc cc0_stg0_0) ↦{fullShare} full v : sProp 𝕄)
      ⊣⊢ iprop((xRows c (kb 0 1 c) (sz 1) v ∗ xRows c (kb 0 1 (pt 0 0 c)) (sz 1) v) ∗ (xRows c (kb 1 1 c) (sz 1) v ∗ xRows c (kb 1 1 (pt 1 0 c)) (sz 1) v)) := by
  have h : (((c : Thread nD τ).loc cc0_stg0_0) ↦{fullShare} full v : sProp 𝕄) ⊣⊢ iprop(xRows c (kb 0 0 c) (sz 0) v ∗ xRows c (kb 1 0 c) (sz 0) v) := by
    show (((c : Thread nD τ).loc cc0_stg0_0) ↦[(Finset.univ : Finset S1024x512.Idx)]{fullShare} full v : sProp 𝕄) ⊣⊢ _
    rw [rows_univ c]; exact pointsTo_union (rows_disjoint_groups c)
  exact ⟨h.1.trans (BI.sep_mono (xRows_split c 0 0 v).1 (xRows_split c 1 0 v).1), (BI.sep_mono (xRows_split c 0 0 v).2 (xRows_split c 1 0 v).2).trans h.2⟩

omit [FloatOps F] in
/-- The result buffer is its two groups' halves. -/
theorem o_halves (c : Dev nD) (v : ℕ → ℕ → Elt F .f32) :
    (((c : Thread nD τ).loc cc0_stg1_0) ↦{fullShare} full v : sProp 𝕄) ⊣⊢ iprop(oRows c (kb 0 0 c) (sz 0) v ∗ oRows c (kb 1 0 c) (sz 0) v) := by
  show (((c : Thread nD τ).loc cc0_stg1_0) ↦[(Finset.univ : Finset S1024x512.Idx)]{fullShare} full v : sProp 𝕄) ⊣⊢ _
  rw [rows_univ c]; exact pointsTo_union (rows_disjoint_groups c)

omit [FloatOps F] in
/-- Rows of the result buffer at some contents are rows at any contents; -/
theorem oAny_intro (c : Dev nD) (a h : ℕ) (f : Buf (Elt F) ((c : Thread nD τ).loc cc0_stg1_0)) :
    (((c : Thread nD τ).loc cc0_stg1_0) ↦[rows a h]{fullShare} f : sProp 𝕄) ⊢ oAny c a h := by
  unfold oAny
  iintro H; iexists f; iexact H

omit [FloatOps F] in
/-- A result buffer holding anything, cut into the four quarters of the first steps. -/
theorem oAny_quarters (c : Dev nD) (f : Buf (Elt F) ((c : Thread nD τ).loc cc0_stg1_0)) :
    (((c : Thread nD τ).loc cc0_stg1_0) ↦{fullShare} f : sProp 𝕄)
      ⊢ iprop((oAny c (kb 0 1 c) (sz 1) ∗ oAny c (kb 0 1 (pt 0 0 c)) (sz 1)) ∗ (oAny c (kb 1 1 c) (sz 1) ∗ oAny c (kb 1 1 (pt 1 0 c)) (sz 1))) := by
  have hg (g : Fin 2) : (((c : Thread nD τ).loc cc0_stg1_0) ↦[rows (kb g 0 c) (sz 0)]{fullShare} f : sProp 𝕄)
      ⊢ iprop(oAny c (kb g 1 c) (sz 1) ∗ oAny c (kb g 1 (pt g 0 c)) (sz 1)) := by
    have := rows_split g 0 c
    rw [show rows (kb g 0 c) (sz 0) = _ from this]
    exact (pointsTo_union (rows_disjoint g 0 c)).1.trans (BI.sep_mono (oAny_intro c _ _ f) (oAny_intro c _ _ f))
  have h0 : (((c : Thread nD τ).loc cc0_stg1_0) ↦[(Finset.univ : Finset S1024x512.Idx)]{fullShare} f : sProp 𝕄)
      ⊢ iprop((((c : Thread nD τ).loc cc0_stg1_0) ↦[rows (kb 0 0 c) (sz 0)]{fullShare} f) ∗ (((c : Thread nD τ).loc cc0_stg1_0) ↦[rows (kb 1 0 c) (sz 0)]{fullShare} f)) := by
    rw [rows_univ c]; exact (pointsTo_union (rows_disjoint_groups c)).1
  exact h0.trans (BI.sep_mono (hg 0) (hg 1))

omit [FloatOps F] in
/-- in particular at known ones. -/
theorem oRows_any (c : Dev nD) (a h : ℕ) (v : ℕ → ℕ → Elt F .f32) : (oRows c a h v : sProp 𝕄) ⊢ oAny c a h := oAny_intro c a h (full v)

omit [FloatOps F] in
/-- A landing buffer at known contents is one at any contents. -/
theorem commPts_any (c : Dev nD) (g : Fin 2) (k : Fin 4) (v : ℕ → ℕ → Elt F .f32) : (commPts c g k v : sProp 𝕄) ⊢ commAny c g k := by
  unfold commPts commAny owns
  iintro ⟨%f, -, H⟩
  iexists f; iexact H

omit [FloatOps F] in
/-- Ownership of a view's elements depends on the contents only through what the view reads. -/
theorem pts_read_congr {s : Shape} (M : Memref sig .tc .vmem s .f32) (c : Dev nD) (q : PosShare TreeShare)
    {f f' : Buf (Elt F) (M.view.loc (c : Thread nD τ))} (h : M.view.read (Elt F) f = M.view.read (Elt F) f') :
    (M.view.loc (c : Thread nD τ) ↦[M.view.set]{q} f : sProp 𝕄) = (M.view.loc (c : Thread nD τ) ↦[M.view.set]{q} f') :=
  pointsTo_congr fun i hi => by
    obtain ⟨x, -, rfl⟩ := Finset.mem_map.mp hi
    have := congrFun h x
    rw [View.read_apply, View.read_apply] at this
    exact (cast_inj _).mp this

/-- The values a device holds after the last halving step are the finished ones on the rows it owns. -/
theorem oRows_finish (m : (ℓ : Loc nD τ sig) → Buf (Elt F) ℓ) (ρ : Dev nD → PrngReg) (c : Dev nD) (g : Fin 2) :
    (oRows c (kb g 4 c) (sz 4) (A m ρ g 4 c) : sProp 𝕄) = oRows c (kb g 4 c) (sz 4) (OUT m ρ) := by
  unfold oRows
  refine pointsTo_congr fun i hi => ?_
  rw [mem_rows] at hi
  obtain ⟨h1, h2⟩ := owner_eq g c hi.1 hi.2
  show A m ρ g 4 c (i 0).val (i 1).val = OUT m ρ (i 0).val (i 1).val
  unfold A OUT; rw [h1, h2]

/-- One halving step adds the partner's value. -/
theorem A_succ (m : (ℓ : Loc nD τ sig) → Buf (Elt F) ℓ) (ρ : Dev nD → PrngReg) (g : Fin 2) (n : ℕ) (c : Dev nD) (r s : ℕ) :
    A m ρ g (n + 1) c r s = FloatOps.addf (A m ρ g n c r s) (A m ρ g n (pt g n c) r s) := rfl

end Cert.KernelIdealProof

end
-- ==== Proof.KernelIdeal.Steps.lean ====
/-
# One transfer, one wait, one accumulation

The rules for the operations of a halving or doubling step, each stated once for any group and any step: sending the half
given up, sending the finished rows, waiting for a transfer on both of its semaphores, and adding what was received.
-/
module

public import proofs.«01_k».proof.Proof.KernelIdeal.Regions

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-- The invariants of all cells, under the names `K`, and that all are at their first round. -/
def records (K : Dev nD × CellIx → ℕ) : sProp 𝕄 :=
  iprop((bigSep Finset.univ fun ci : Dev nD × CellIx => cellInv ER (Rd m ρ) (K ci) (kcell ci.1 ci.2))
    ∗ bigSep Finset.univ fun ci : Dev nD × CellIx => reached ER (kcell ci.1 ci.2) 0)

instance records_persistent (K : Dev nD × CellIx → ℕ) : BI.Persistent (records (F := F) m ρ K) := by unfold records; infer_instance

variable (K : Dev nD × CellIx → ℕ)

/-- The invariant of any one cell, from the records; -/
theorem inv_at (c : Dev nD) (i : CellIx) : (records m ρ K : sProp 𝕄) ⊢ cellInv ER (Rd m ρ) (K (c, i)) (kcell c i) := by
  have h : (bigSep Finset.univ fun ci : Dev nD × CellIx => (cellInv ER (Rd m ρ) (K ci) (kcell ci.1 ci.2) : sProp 𝕄)) ⊢ cellInv ER (Rd m ρ) (K (c, i)) (kcell c i) :=
    bigSep_elim (Finset.mem_univ (c, i))
  unfold records
  iintro ⟨#H, -⟩
  iapply h; iexact H

/-- and that the cell has reached round 0. -/
theorem reached_at (c : Dev nD) (i : CellIx) : (records m ρ K : sProp 𝕄) ⊢ reached ER (kcell c i) 0 := by
  have h : (bigSep Finset.univ fun ci : Dev nD × CellIx => (reached ER (kcell ci.1 ci.2) 0 : sProp 𝕄)) ⊢ reached ER (kcell c i) 0 :=
    bigSep_elim (Finset.mem_univ (c, i))
  unfold records
  iintro ⟨-, #H⟩
  iapply h; iexact H

/-- What device `c` still owes, the payments of `l`. -/
def ow (c : Dev nD) (l : List Pay) : sProp 𝕄 := iprop(∃ W, owes (c : Thread nD τ) (owing c l) W)

/-- The rights of a sender: to pay its own cell and its partner's; -/
def tx (c : Dev nD) (s : Slot) : sProp 𝕄 :=
  iprop(dutyTok ER (kcell c (some (false, s))) 0 0 ∗ dutyTok ER (kcell (pt s.1 s.2.2 c) (some (true, s))) 0 0)
/-- of a waiter: its positions on its two cells, and the credit of what it receives; -/
def rx (c : Dev nD) (s : Slot) : sProp 𝕄 :=
  iprop(atPos ER (kcell c (some (false, s))) 0 ∅ 0 ∗ atPos ER (kcell c (some (true, s))) 0 ∅ 0 ∗ cred (tallyAt (kcell c (some (true, s))) () (N s.2.2)))
/-- and the credit of what it has sent. -/
def sent (c : Dev nD) (s : Slot) : sProp 𝕄 := cred (tallyAt (kcell c (some (false, s))) () (N s.2.2))
/-- Both cells of a transfer closed, at zero. -/
def spent (c : Dev nD) (s : Slot) : sProp 𝕄 :=
  iprop(semVal (kcell c (some (false, s))) 0 ∗ semVal (kcell c (some (true, s))) 0)

/-- A transfer's cell has the duty 0. -/
theorem mem_dutiesOf_some (x : Bool × Slot) : (0 : Fin 4) ∈ dutiesOf (some x) := Finset.mem_singleton_self _

omit [FloatOps F] in
/-- The elements of a slice of whole rows of the result buffer are those rows; -/
theorem view_oM_slice_set {off : Fin 2 → ℕ} {a h : ℕ} (inb) (hs) (hoff : off = ![a, 0]) :
    (oM.slice (rowRect off h inb) hs).view.set = rows a h := by
  rw [← rowRect_set inb hoff]; exact View.set_slice_whole _ _

omit [FloatOps F] in
/-- and so of the input buffer. -/
theorem view_xM_slice_set {off : Fin 2 → ℕ} {a h : ℕ} (inb) (hs) (hoff : off = ![a, 0]) :
    (xM.slice (rowRect off h inb) hs).view.set = rows a h := by
  rw [← rowRect_set inb hoff]; exact View.set_slice_whole _ _

omit [FloatOps F] in
/-- Owning rows of the input buffer is owning that slice; -/
theorem xRows_view (c : Dev nD) {off : Fin 2 → ℕ} {a h : ℕ} (inb) (hs) (hoff : off = ![a, 0]) (v : ℕ → ℕ → Elt F .f32) :
    (((xM.slice (rowRect off h inb) hs).view.loc (c : Thread nD τ)) ↦[(xM.slice (rowRect off h inb) hs).view.set]{fullShare} full v : sProp 𝕄) = xRows c a h v := by
  rw [view_xM_slice_set inb hs hoff]; rfl

omit [FloatOps F] in
/-- owning rows of the result buffer likewise, -/
theorem oRows_view (c : Dev nD) {off : Fin 2 → ℕ} {a h : ℕ} (inb) (hs) (hoff : off = ![a, 0]) (v : ℕ → ℕ → Elt F .f32) :
    (((oM.slice (rowRect off h inb) hs).view.loc (c : Thread nD τ)) ↦[(oM.slice (rowRect off h inb) hs).view.set]{fullShare} full v : sProp 𝕄) = oRows c a h v := by
  rw [view_oM_slice_set inb hs hoff]; rfl

omit [FloatOps F] in
/-- and at any contents. -/
theorem oAny_view (c : Dev nD) {off : Fin 2 → ℕ} {a h : ℕ} (inb) (hs) (hoff : off = ![a, 0]) :
    (oAny c a h : sProp 𝕄) ⊢ iprop(∃ f, ((oM.slice (rowRect off h inb) hs).view.loc (c : Thread nD τ)) ↦[(oM.slice (rowRect off h inb) hs).view.set]{fullShare} f) := by
  rw [view_oM_slice_set inb hs hoff]; exact BI.Entails.refl _

/-- Rows of a result buffer after a window's worth of values is written to them. -/
theorem oRows_written (c : Dev nD) {off : Fin 2 → ℕ} {a h : ℕ} (inb) (hs) (hoff : off = ![a, 0]) (v : ℕ → ℕ → Elt F .f32)
    (f : Buf (Elt F) ((oM.slice (rowRect off h inb) hs).view.loc (c : Thread nD τ))) {w : (rowRect off h inb).shape.Idx → Elt F .f32}
    (hw : ∀ i, w i = v (a + (i 0).val) (i 1).val) :
    (((oM.slice (rowRect off h inb) hs).view.loc (c : Thread nD τ)) ↦[(oM.slice (rowRect off h inb) hs).view.set]{fullShare}
        ((oM.slice (rowRect off h inb) hs).view.write (Elt F) f w Finset.univ) : sProp 𝕄) = oRows c a h v := by
  rw [← oRows_view c inb hs hoff v]
  refine pts_read_congr _ c fullShare ?_
  rw [View.read_write_univ]
  funext i
  rw [hw i]; exact (rowRect_full inb hoff v i).symm

/-- A landing buffer after a transfer of a window's worth of values. -/
theorem commPts_written (c : Dev nD) (g : Fin 2) (k : Fin 4) (v : ℕ → ℕ → Elt F .f32) (f : Buf (Elt F) ((commM g k).view.loc (c : Thread nD τ)))
    {w : (⟨2, ![sz (k.val + 1), 512]⟩ : Shape).Idx → Elt F .f32} (hw : ∀ i, w i = v (i 0).val (i 1).val) :
    ((commM g k).view.loc (c : Thread nD τ) ↦[(commM g k).view.set]{fullShare} ((commM g k).view.write (Elt F) f w Finset.univ) : sProp 𝕄) ⊢ commPts c g k v := by
  unfold commPts owns
  iintro H
  iexists ((commM g k).view.write (Elt F) f w Finset.univ)
  isplitr
  · ipureintro
    rw [View.read_write_univ]
    exact funext hw
  iexact H

/-- What comes back to the sender: at the first halving step the rows of the input sent; -/
theorem sendPay_first (c : Dev nD) (g : Fin 2) (j : Fin 4) (hj : j = 0) :
    (sendPay m ρ c (g, false, j) : sProp 𝕄) = xRows c (kb g (j + 1) (pt g j c)) (sz (j + 1)) (fun r t => X m ρ r t c) := by
  subst hj; unfold sendPay; dsimp only; rw [if_neg Bool.false_ne_true, if_pos rfl]; rfl
/-- at the later ones nothing, for the rows go to the receiver; -/
theorem sendPay_half (c : Dev nD) (g : Fin 2) (j : Fin 4) (hj : j ≠ 0) : (sendPay m ρ c (g, false, j) : sProp 𝕄) = iprop(emp) := by
  unfold sendPay; dsimp only; rw [if_neg Bool.false_ne_true, if_neg hj]
/-- at a doubling step the rows sent. -/
theorem sendPay_double (c : Dev nD) (g : Fin 2) (j : Fin 4) :
    (sendPay m ρ c (g, true, j) : sProp 𝕄) = oRows c (kb g (j + 1) c) (sz (j + 1)) (OUT m ρ) := by
  unfold sendPay; dsimp only; rw [if_pos rfl]

/-- What a landing buffer holds after step `j`: the partner's value on the rows kept. -/
def landed (c : Dev nD) (g : Fin 2) (j : Fin 4) (r t : ℕ) : Elt F .f32 := A m ρ g j (pt g j c) (kb g (j + 1) c + r) t

/-- What the receiver gets: at the first halving step its landing buffer with the partner's half; -/
theorem recvPay_first (c : Dev nD) (g : Fin 2) (j : Fin 4) (hj : j = 0) :
    (recvPay m ρ c (g, false, j) : sProp 𝕄) = iprop(commPts c g j (landed m ρ c g j) ∗ emp) := by
  subst hj; unfold recvPay; dsimp only; rw [if_neg Bool.false_ne_true, if_pos rfl]; rfl
/-- at the later ones also that half of the partner's result buffer; -/
theorem recvPay_half (c : Dev nD) (g : Fin 2) (j : Fin 4) (hj : j ≠ 0) :
    (recvPay m ρ c (g, false, j) : sProp 𝕄) = iprop(commPts c g j (landed m ρ c g j) ∗ oAny (pt g j c) (kb g (j + 1) c) (sz (j + 1))) := by
  unfold recvPay; dsimp only; rw [if_neg Bool.false_ne_true, if_neg hj]; rfl
/-- at a doubling step the partner's finished rows. -/
theorem recvPay_double (c : Dev nD) (g : Fin 2) (j : Fin 4) :
    (recvPay m ρ c (g, true, j) : sProp 𝕄) = oRows c (kb g (j + 1) (pt g j c)) (sz (j + 1)) (OUT m ρ) := by
  unfold recvPay; dsimp only; rw [if_pos rfl]

/-- A transfer whose source comes back to the sender: it pays the sender's cell with `sendPay` and the partner's with
    `recvPay`. -/
theorem wp_transfer (c : Dev nD) (s : Slot) (l : List Pay) {n : Dev nD} (hn : n = pt s.1 s.2.2 c)
    {sS sR : DmaSem sig} (hS : sS = dsem false s) (hR : sR = dsem true s) {sh : Shape}
    {src dst : Memref sig .tc .vmem sh .f32} (hN : dst.view.dmaCredit = N s.2.2)
    {fs : Buf (Elt F) (src.view.loc (c : Thread nD τ))} {fd : Buf (Elt F) (dst.view.loc (n : Thread nD τ))}
    (h₁ : (src.view.loc (c : Thread nD τ) ↦[src.view.set]{fullShare} fs) ⊢ sendPay m ρ c s)
    (h₂ : (dst.view.loc (n : Thread nD τ) ↦[dst.view.set]{fullShare} (dst.view.write (Elt F) fd (src.view.read (Elt F) fs) Finset.univ))
      ⊢ recvPay m ρ n s)
    {hsc : (dst : Memref sig (Dev.tc n : Thread nD τ).2.kind .vmem sh .f32).view.ref.isScScratch = false} {hsrc} {hdst}
    {hsem} {α : Type} {Q : α → sProp 𝕄} {k : PUnit → Prog (TpuEff nD τ sig (Elt F) Λ₀ .tc) α} :
    iprop(records m ρ K ∗ (src.view.loc (c : Thread nD τ) ↦[src.view.set]{fullShare} fs) ∗ (dst.view.loc (n : Thread nD τ) ↦[dst.view.set]{fullShare} fd)
        ∗ ow c (.inr s :: l) ∗ tx c s)
      ⊢ iprop(((sent c s ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  unfold ow tx sent
  iintro ⟨#HR, Hx, Hd, ⟨%W, HO⟩, HtS, HtR⟩
  ihave #HiS := (inv_at m ρ K c (some (false, s))) $$ HR
  ihave #HiR := (inv_at m ρ K (pt s.1 s.2.2 c) (some (true, s))) $$ HR
  ihave #HrS := (reached_at m ρ K c (some (false, s))) $$ HR
  ihave #HrR := (reached_at m ρ K (pt s.1 s.2.2 c) (some (true, s))) $$ HR
  iintro Hk
  iapply (Rounds.wp_send_pointsTo 𝒱₀ ER (Rd m ρ) (c : Thread nD τ) none (κ₁ := K (c, some (false, s))) (κ₂ := K (pt s.1 s.2.2 c, some (true, s)))
    (r₁ := 0) (r₂ := 0) (d₁ := 0) (d₂ := 0) (q := fullShare) (fs := fs) (fd := fd)
    ((Rd_duties m ρ c (some (false, s))).symm ▸ mem_dutiesOf_some _) ((Rd_duties m ρ (pt s.1 s.2.2 c) (some (true, s))).symm ▸ mem_dutiesOf_some _)
    () () (N s.2.2) (show dst.view.amount (SemLoc.dma (dsem true s)) = N s.2.2 from hN) (Rd_amount m ρ c (some (false, s)) 0) (Rd_amount m ρ (pt s.1 s.2.2 c) (some (true, s)) 0)
    (owing c l) rfl (W := W) (h₁.trans (Entails.of_eq (Rd_payload m ρ c (some (false, s)) 0).symm))
    (h₂.trans (Entails.of_eq (Rd_payload m ρ (pt s.1 s.2.2 c) (some (true, s)) 0).symm))) $$ [Hx Hd HO HtS HtR] [Hk]
  · isplitr; · iexact HiS
    isplitr; · iexact HiR
    isplitl [Hx]; · iexact Hx
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- A transfer whose source goes to the partner with the landing. -/
theorem wp_transfer_away (c : Dev nD) (s : Slot) (l : List Pay) {n : Dev nD} (hn : n = pt s.1 s.2.2 c)
    {sS sR : DmaSem sig} (hS : sS = dsem false s) (hR : sR = dsem true s) {sh : Shape}
    {src dst : Memref sig .tc .vmem sh .f32} (hN : dst.view.dmaCredit = N s.2.2)
    {fs : Buf (Elt F) (src.view.loc (c : Thread nD τ))} {fd : Buf (Elt F) (dst.view.loc (n : Thread nD τ))}
    (h₁ : (emp : sProp 𝕄) ⊢ sendPay m ρ c s)
    (h₂ : iprop((dst.view.loc (n : Thread nD τ) ↦[dst.view.set]{fullShare} (dst.view.write (Elt F) fd (src.view.read (Elt F) fs) Finset.univ))
        ∗ (src.view.loc (c : Thread nD τ) ↦[src.view.set]{fullShare} fs)) ⊢ recvPay m ρ n s)
    {hsc : (dst : Memref sig (Dev.tc n : Thread nD τ).2.kind .vmem sh .f32).view.ref.isScScratch = false} {hsrc} {hdst}
    {hsem} {α : Type} {Q : α → sProp 𝕄} {k : PUnit → Prog (TpuEff nD τ sig (Elt F) Λ₀ .tc) α} :
    iprop(records m ρ K ∗ (src.view.loc (c : Thread nD τ) ↦[src.view.set]{fullShare} fs) ∗ (dst.view.loc (n : Thread nD τ) ↦[dst.view.set]{fullShare} fd)
        ∗ ow c (.inr s :: l) ∗ tx c s)
      ⊢ iprop(((sent c s ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  unfold ow tx sent
  iintro ⟨#HR, Hx, Hd, ⟨%W, HO⟩, HtS, HtR⟩
  ihave #HiS := (inv_at m ρ K c (some (false, s))) $$ HR
  ihave #HiR := (inv_at m ρ K (pt s.1 s.2.2 c) (some (true, s))) $$ HR
  ihave #HrS := (reached_at m ρ K c (some (false, s))) $$ HR
  ihave #HrR := (reached_at m ρ K (pt s.1 s.2.2 c) (some (true, s))) $$ HR
  iintro Hk
  iapply (Rounds.wp_send_landing_pointsTo 𝒱₀ ER (Rd m ρ) (c : Thread nD τ) none (κ₁ := K (c, some (false, s))) (κ₂ := K (pt s.1 s.2.2 c, some (true, s)))
    (r₁ := 0) (r₂ := 0) (d₁ := 0) (d₂ := 0) (q := fullShare) (fs := fs) (fd := fd)
    ((Rd_duties m ρ c (some (false, s))).symm ▸ mem_dutiesOf_some _) ((Rd_duties m ρ (pt s.1 s.2.2 c) (some (true, s))).symm ▸ mem_dutiesOf_some _)
    () () (N s.2.2) (show dst.view.amount (SemLoc.dma (dsem true s)) = N s.2.2 from hN) (Rd_amount m ρ c (some (false, s)) 0) (Rd_amount m ρ (pt s.1 s.2.2 c) (some (true, s)) 0)
    (owing c l) rfl (W := W) (h₁.trans (Entails.of_eq (Rd_payload m ρ c (some (false, s)) 0).symm))
    (h₂.trans (Entails.of_eq (Rd_payload m ρ (pt s.1 s.2.2 c) (some (true, s)) 0).symm))) $$ [Hx Hd HO HtS HtR] [Hk]
  · isplitr; · iexact HiS
    isplitr; · iexact HiR
    isplitl [Hx]; · iexact Hx
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The first halving step's send: from the input buffer. -/
theorem wp_send_first (c : Dev nD) (g : Fin 2) (j : Fin 4) (hj : j = 0) (l : List Pay) {n : Dev nD} (hn : n = pt g j c)
    {off : Fin 2 → ℕ} {inb} {hs} (hoff : off = ![kb g (j + 1) (pt g j c), 0])
    {D : Memref sig .tc .vmem ⟨2, ![sz (j.val + 1), 512]⟩ .f32} (hD : D = commM g j)
    {sS sR : DmaSem sig} (hS : sS = dsem false (g, false, j)) (hR : sR = dsem true (g, false, j))
    {hsc : (D : Memref sig (Dev.tc n : Thread nD τ).2.kind .vmem _ .f32).view.ref.isScScratch = false} {hsrc} {hdst}
    {hsem} {α : Type} {Q : α → sProp 𝕄} {k : PUnit → Prog (TpuEff nD τ sig (Elt F) Λ₀ .tc) α} :
    iprop(records m ρ K ∗ xRows c (kb g (j + 1) (pt g j c)) (sz (j + 1)) (fun r t => X m ρ r t c) ∗ commAny (pt g j c) g j
        ∗ ow c (.inr (g, false, j) :: l) ∗ tx c (g, false, j))
      ⊢ iprop(((sent c (g, false, j) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (rowRect off (sz (j.val + 1)) inb) hs) (.remote (Dev.tc n : Thread nD τ) D (.dma sS) hsc) (.dma sR) hsrc hdst hsem) k) Q) := by
  subst hn hD
  unfold commAny
  iintro ⟨#HR, Hx, ⟨%fd, Hd⟩, HO, Ht⟩
  iapply (wp_transfer m ρ K c (g, false, j) l rfl hS hR (src := xM.slice (rowRect off (sz (j.val + 1)) inb) hs) (dst := commM g j) (commM_credit g j) (fs := full fun r t => X m ρ r t c) (fd := fd)
    (Entails.of_eq ((xRows_view c inb hs hoff _).trans (sendPay_first m ρ c g j hj).symm))
    (by
      rw [recvPay_first m ρ _ g j hj]
      refine (commPts_written (pt g j c) g j (landed m ρ (pt g j c) g j) fd fun i => ?_).trans ?_
      · refine (rowRect_full inb hoff (fun r t => X m ρ r t c) i).trans ?_
        unfold landed; rw [pt_pt]; subst hj; rfl
      iintro H
      isplitl [H]; · iexact H
      iempintro))
  isplitr; · iexact HR
  isplitl [Hx]; · rw [xRows_view c inb hs hoff]; iexact Hx
  isplitl [Hd]; · iexact Hd
  isplitl [HO] <;> iassumption

/-- A later halving step's send: from the result buffer, the rows sent left to the partner. -/
theorem wp_send_half (c : Dev nD) (g : Fin 2) (j : Fin 4) (hj : j ≠ 0) (l : List Pay) {n : Dev nD} (hn : n = pt g j c)
    {off : Fin 2 → ℕ} {inb} {hs} (hoff : off = ![kb g (j + 1) (pt g j c), 0])
    {D : Memref sig .tc .vmem ⟨2, ![sz (j.val + 1), 512]⟩ .f32} (hD : D = commM g j)
    {sS sR : DmaSem sig} (hS : sS = dsem false (g, false, j)) (hR : sR = dsem true (g, false, j))
    {hsc : (D : Memref sig (Dev.tc n : Thread nD τ).2.kind .vmem _ .f32).view.ref.isScScratch = false} {hsrc} {hdst}
    {hsem} {α : Type} {Q : α → sProp 𝕄} {k : PUnit → Prog (TpuEff nD τ sig (Elt F) Λ₀ .tc) α} :
    iprop(records m ρ K ∗ oRows c (kb g (j + 1) (pt g j c)) (sz (j + 1)) (A m ρ g j c) ∗ commAny (pt g j c) g j
        ∗ ow c (.inr (g, false, j) :: l) ∗ tx c (g, false, j))
      ⊢ iprop(((sent c (g, false, j) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (rowRect off (sz (j.val + 1)) inb) hs) (.remote (Dev.tc n : Thread nD τ) D (.dma sS) hsc) (.dma sR) hsrc hdst hsem) k) Q) := by
  subst hn hD
  unfold commAny
  iintro ⟨#HR, Hx, ⟨%fd, Hd⟩, HO, Ht⟩
  iapply (wp_transfer_away m ρ K c (g, false, j) l rfl hS hR (src := oM.slice (rowRect off (sz (j.val + 1)) inb) hs) (dst := commM g j) (commM_credit g j) (fs := full (A m ρ g j c)) (fd := fd)
    (Entails.of_eq (sendPay_half m ρ c g j hj).symm)
    (by
      rw [recvPay_half m ρ _ g j hj, oRows_view c inb hs hoff, pt_pt]
      refine BI.sep_mono (commPts_written (pt g j c) g j _ fd fun i => ?_) (oRows_any _ _ _ _)
      refine (rowRect_full inb hoff (A m ρ g j c) i).trans ?_
      unfold landed; rw [pt_pt]))
  isplitr; · iexact HR
  isplitl [Hx]; · rw [oRows_view c inb hs hoff]; iexact Hx
  isplitl [Hd]; · iexact Hd
  isplitl [HO] <;> iassumption

/-- A doubling step's send: finished rows, straight into the partner's result buffer. -/
theorem wp_send_double (c : Dev nD) (g : Fin 2) (j : Fin 4) (l : List Pay) {n : Dev nD} (hn : n = pt g j c)
    {off : Fin 2 → ℕ} {inb inb'} {hs hs'} (hoff : off = ![kb g (j + 1) c, 0])
    {sS sR : DmaSem sig} (hS : sS = dsem false (g, true, j)) (hR : sR = dsem true (g, true, j))
    (hN : (oM.slice (rowRect off (sz (j.val + 1)) inb') hs').view.dmaCredit = N j)
    {hsc : ((oM.slice (rowRect off (sz (j.val + 1)) inb') hs') : Memref sig (Dev.tc n : Thread nD τ).2.kind .vmem _ .f32).view.ref.isScScratch = false} {hsrc} {hdst}
    {hsem} {α : Type} {Q : α → sProp 𝕄} {k : PUnit → Prog (TpuEff nD τ sig (Elt F) Λ₀ .tc) α} :
    iprop(records m ρ K ∗ oRows c (kb g (j + 1) c) (sz (j + 1)) (OUT m ρ) ∗ oAny (pt g j c) (kb g (j + 1) c) (sz (j + 1))
        ∗ ow c (.inr (g, true, j) :: l) ∗ tx c (g, true, j))
      ⊢ iprop(((sent c (g, true, j) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (rowRect off (sz (j.val + 1)) inb) hs) (.remote (Dev.tc n : Thread nD τ) (oM.slice (rowRect off (sz (j.val + 1)) inb') hs') (.dma sS) hsc) (.dma sR) hsrc hdst hsem) k) Q) := by
  subst hn
  iintro ⟨#HR, Hx, Hd, HO, Ht⟩
  ihave Hd := (oAny_view (pt g j c) inb' hs' hoff) $$ Hd
  icases Hd with ⟨%fd, Hd⟩
  iapply (wp_transfer m ρ K c (g, true, j) l rfl hS hR (src := oM.slice (rowRect off (sz (j.val + 1)) inb) hs) (dst := oM.slice (rowRect off (sz (j.val + 1)) inb') hs') hN (fs := full (OUT m ρ)) (fd := fd)
    (Entails.of_eq ((oRows_view c inb hs hoff _).trans (sendPay_double m ρ c g j).symm))
    (by
      rw [recvPay_double, pt_pt]
      exact Entails.of_eq (oRows_written (pt g j c) inb' hs' hoff _ fd fun i => rowRect_full inb hoff (OUT m ρ) i)))
  isplitr; · iexact HR
  isplitl [Hx]; · rw [oRows_view c inb hs hoff]; iexact Hx
  isplitl [Hd]; · iexact Hd
  isplitl [HO] <;> iassumption

/-- What waiting out a transfer's cell gives, with the cell written out. -/
theorem rest_dma (c : Dev nD) (r : Bool) (s : Slot) :
    bigSep ((Rd (F := F) m ρ).duties ((c : Thread nD τ), SemLoc.dma (dsem r s)) 0 \ ∅) (fun d => (Rd (F := F) m ρ).payload ((c : Thread nD τ), SemLoc.dma (dsem r s)) 0 d)
      = pay m ρ c (some (r, s)) 0 := rest_eq m ρ c r s

/-- Waiting for a transfer, first on the sender's semaphore and then on the receiver's: both deliver, and both cells close. -/
theorem wp_wait_both (c : Dev nD) (s : Slot) (l : List Pay) (hl : ∀ p ∈ l, 2 + place s.2.1 s.2.2 < plevel p)
    {sS sR : DmaSem sig} (hS : sS = dsem false s) (hR : sR = dsem true s) {sh sh' : Shape}
    {a b : Memref sig .tc .vmem sh .f32} {a' b' : Memref sig .tc .vmem sh' .f32}
    (hb : b.view.dmaCredit = N s.2.2) (hb' : b'.view.dmaCredit = N s.2.2)
    {α : Type} {Q : α → sProp 𝕄} {k : PUnit → Prog (TpuEff nD τ sig (Elt F) Λ₀ .tc) α} {h1 h2 h3 h4} :
    iprop(records m ρ K ∗ levAts L lv ∗ sent c s ∗ rx c s ∗ ow c l)
      ⊢ iprop(((sendPay m ρ c s ∗ recvPay m ρ c s ∗ ow c l ∗ spent c s) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS a b h1 h2) fun _ => .op (.waitDma2 sR a' b' h3 h4) k) Q) := by
  subst hS hR
  unfold ow rx sent spent
  iintro ⟨#HR, #Hlev, Hc, ⟨HatS, HatR, HcR⟩, ⟨%W, HO⟩⟩
  ihave #HiS := (inv_at m ρ K c (some (false, s))) $$ HR
  ihave #HiR := (inv_at m ρ K c (some (true, s))) $$ HR
  iintro Hk
  iapply (Rounds.wp_wait_rest_token 𝒱₀ ER (Rd m ρ) (c : Thread nD τ) none (κ := K (c, some (false, s)))
      (wpE_waitDma2_eq 𝒱₀ (c : Thread nD τ) none Set.univ) (Set.mem_univ _) () (O := owing c l) (W := W) (R := 0) (m := 0) (T := ∅)
      (by rw [Nat.zero_add, hb]; exact (Rd_expect m ρ c false s).symm)) $$ [Hc HO HatS]
  · isplitr; · iexact HiS
    isplitl [Hc]; · rw [hb]; iexact Hc
    isplitl [HO]; · iexact HO
    isplitr
    · iapply (mayWait c _ l 0 (by rw [show ((c : Thread nD τ), SemLoc.dma (dsem false s)) = kcell c (some (false, s)) from rfl, lv_kcell]; exact Nat.le_refl 0)
        (fun p hp => Nat.lt_of_le_of_lt (Nat.zero_le _) (hl p hp))); iexact Hlev
    iexact HatS
  iintro ⟨HO, HatS, -, Hpay⟩
  ihave HpS := (Entails.of_eq (rest_dma m ρ c false s)) $$ Hpay
  iapply (Rounds.wp_wait_rest_token 𝒱₀ ER (Rd m ρ) (c : Thread nD τ) none (κ := K (c, some (true, s)))
      (wpE_waitDma2_eq 𝒱₀ (c : Thread nD τ) none Set.univ) (Set.mem_univ _) () (O := owing c l) (W := insert (SemLoc.dma (dsem false s), ()) W) (R := 0) (m := 0) (T := ∅)
      (by rw [Nat.zero_add, hb']; exact (Rd_expect m ρ c true s).symm)) $$ [HcR HO HatR]
  · isplitr; · iexact HiR
    isplitl [HcR]; · rw [hb']; iexact HcR
    isplitl [HO]; · iexact HO
    isplitr
    · iapply (mayWait c _ l (2 + place s.2.1 s.2.2) (by rw [show ((c : Thread nD τ), SemLoc.dma (dsem true s)) = kcell c (some (true, s)) from rfl, lv_kcell]; exact Nat.le_refl _) hl)
      iexact Hlev
    iexact HatR
  iintro ⟨HO, HatR, -, Hpay⟩
  ihave HpR := (Entails.of_eq (rest_dma m ρ c true s)) $$ Hpay
  imod (Rounds.cell_close ER (Rd m ρ) (Set.mem_univ (K (c, some (false, s)))) (fun h => h) (R := 0 + 1) (Rd_duties_later m ρ (kcell c (some (false, s))))) $$ [HatS] with HzS
  · isplitr; · iexact HiS
    iexact HatS
  imod (Rounds.cell_close ER (Rd m ρ) (Set.mem_univ (K (c, some (true, s)))) (fun h => h) (R := 0 + 1) (Rd_duties_later m ρ (kcell c (some (true, s))))) $$ [HatR] with HzR
  · isplitr; · iexact HiR
    iexact HatR
  iapply Hk
  isplitl [HpS]; · iapply (Entails.of_eq (show pay m ρ c (some (false, s)) 0 = sendPay m ρ c s from rfl)); iexact HpS
  isplitl [HpR]; · iapply (Entails.of_eq (show pay m ρ c (some (true, s)) 0 = recvPay m ρ c s from rfl)); iexact HpR
  isplitl [HO]; · iexists _; iexact HO
  isplitl [HzS] <;> iassumption

end Cert.KernelIdealProof

end
-- ==== Proof.KernelIdeal.Accum.lean ====
/-
# Adding what was received to the rows kept

The loads and the store that end a halving step: the rows kept, from the input buffer at the first step and from the
result buffer afterwards, plus the landing buffer, into the result buffer.
-/
module

public import proofs.«01_k».proof.Proof.KernelIdeal.Steps

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The elements a load or store of whole rows of the result buffer touches are those rows; -/
theorem oM_access_set {off : Fin 2 → ℕ} {a h : ℕ} (inb) (hoff : off = ![a, 0]) : (oM.access (rowRect off h inb)).set = rows a h := by
  rw [← rowRect_set inb hoff]; exact View.set_slice_whole _ _

omit [FloatOps F] in
/-- and so of the input buffer. -/
theorem xM_access_set {off : Fin 2 → ℕ} {a h : ℕ} (inb) (hoff : off = ![a, 0]) : (xM.access (rowRect off h inb)).set = rows a h := by
  rw [← rowRect_set inb hoff]; exact View.set_slice_whole _ _

/-- The landing buffer's load, the load of the rows about to be replaced, and the store of the sum, after the rows kept have
    been read as `v`. -/
theorem wp_accum_rest (c : Dev nD) (g : Fin 2) (j : Fin 4) {off : Fin 2 → ℕ} {inb} (hoff : off = ![kb g (j + 1) c, 0])
    {D : Memref sig .tc .vmem ⟨2, ![sz (j.val + 1), 512]⟩ .f32} (hD : D = commM g j)
    {v : (⟨2, ![sz (j.val + 1), 512]⟩ : Shape).Idx → Elt F .f32} (hv : ∀ i, v i = A m ρ g j c (kb g (j + 1) c + (i 0).val) (i 1).val)
    {P : ((⟨2, ![sz (j.val + 1), 512]⟩ : Shape).Idx → Elt F .f32) → (⟨2, ![sz (j.val + 1), 512]⟩ : Shape).Idx → Elt F .f32}
    (hP : ∀ b i, P b i = FloatOps.addf (v i) (b i)) {inb0 : ∀ a, (![0, 0] : Fin 2 → ℕ) a + (![sz (j.val + 1), 512] : Fin 2 → ℕ) a ≤ (![sz (j.val + 1), 512] : Fin 2 → ℕ) a} {hl2 hl3 hx hm}
    {α : Type} {Q : α → sProp 𝕄} {k : PUnit → Prog (TpuEff nD τ sig (Elt F) Λ₀ .tc) α} :
    iprop(commPts c g j (landed m ρ c g j) ∗ oAny c (kb g (j + 1) c) (sz (j + 1)))
      ⊢ iprop(((commAny c g j ∗ oRows c (kb g (j + 1) c) (sz (j + 1)) (A m ρ g (j + 1) c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load D (Rect.unit (s := ⟨2, ![sz (j.val + 1), 512]⟩) ![0, 0] ![sz (j.val + 1), 512] inb0).toLoadRect hl2) fun b =>
                .op (.load oM (rowRect off (sz (j.val + 1)) inb).toLoadRect hl3) fun _ =>
                  .op (.store oM (rowRect off (sz (j.val + 1)) inb) (P b) Finset.univ hx hm) k) Q) := by
  subst hD
  unfold commPts owns oAny
  iintro ⟨⟨%fb, %hfb, Hb⟩, ⟨%fo, Ho⟩⟩ Hk
  iapply (wp_load 𝒱₀ (c : Thread nD τ) none Set.univ (m := commM g j) (S := (commM g j).view.set) (View.setOn_subset_set _ _)) $$ Hb
  iintro Hb
  rw [show ((commM g j).view.readAt (Elt F) (Rect.unit (s := ⟨2, ![sz (j.val + 1), 512]⟩) ![0, 0] ![sz (j.val + 1), 512] inb0).toLoadRect fb) = (commM g j).view.read (Elt F) fb
    from View.readAt_full (commM g j).view fb inb0, hfb]
  iapply (wp_load_rect 𝒱₀ (c : Thread nD τ) none Set.univ (m := oM) (r := rowRect off (sz (j.val + 1)) inb) (S := rows (kb g (j + 1) c) (sz (j + 1)))
    (by rw [oM_access_set inb hoff])) $$ Ho
  iintro Ho
  iapply (wp_store 𝒱₀ (c : Thread nD τ) none Set.univ (m := oM) (r := rowRect off (sz (j.val + 1)) inb) (Mk := Finset.univ) (S := rows (kb g (j + 1) c) (sz (j + 1)))
    (by rw [View.setOn_univ, oM_access_set inb hoff])) $$ Ho
  iintro Ho
  iapply Hk
  isplitl [Hb]
  · unfold commAny; iexists fb; iexact Hb
  have e := oRows_written c inb (fun _ => rfl) hoff (A m ρ g (j + 1) c) fo
    (w := P fun i => landed m ρ c g j (i 0).val (i 1).val) (fun i => by rw [hP, hv, A_succ]; rfl)
  rw [← e, view_oM_slice_set inb (fun _ => rfl) hoff]
  iexact Ho

/-- The first step's: the rows kept are read from the input buffer. -/
theorem wp_accum_first (c : Dev nD) (g : Fin 2) (j : Fin 4) (hj : j = 0) {off : Fin 2 → ℕ} {inb} (hoff : off = ![kb g (j + 1) c, 0])
    {D : Memref sig .tc .vmem ⟨2, ![sz (j.val + 1), 512]⟩ .f32} (hD : D = commM g j)
    {P : ((⟨2, ![sz (j.val + 1), 512]⟩ : Shape).Idx → Elt F .f32) → ((⟨2, ![sz (j.val + 1), 512]⟩ : Shape).Idx → Elt F .f32) → (⟨2, ![sz (j.val + 1), 512]⟩ : Shape).Idx → Elt F .f32}
    (hP : ∀ a b i, P a b i = FloatOps.addf (a i) (b i)) {inb0 : ∀ a, (![0, 0] : Fin 2 → ℕ) a + (![sz (j.val + 1), 512] : Fin 2 → ℕ) a ≤ (![sz (j.val + 1), 512] : Fin 2 → ℕ) a} {hl1 hl2 hl3 hx hm}
    {α : Type} {Q : α → sProp 𝕄} {k : PUnit → Prog (TpuEff nD τ sig (Elt F) Λ₀ .tc) α} :
    iprop(xRows c (kb g (j + 1) c) (sz (j + 1)) (fun r t => X m ρ r t c) ∗ commPts c g j (landed m ρ c g j) ∗ oAny c (kb g (j + 1) c) (sz (j + 1)))
      ⊢ iprop(((xRows c (kb g (j + 1) c) (sz (j + 1)) (fun r t => X m ρ r t c) ∗ commAny c g j ∗ oRows c (kb g (j + 1) c) (sz (j + 1)) (A m ρ g (j + 1) c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (rowRect off (sz (j.val + 1)) inb).toLoadRect hl1) fun a =>
                .op (.load D (Rect.unit (s := ⟨2, ![sz (j.val + 1), 512]⟩) ![0, 0] ![sz (j.val + 1), 512] inb0).toLoadRect hl2) fun b =>
                .op (.load oM (rowRect off (sz (j.val + 1)) inb).toLoadRect hl3) fun _ =>
                  .op (.store oM (rowRect off (sz (j.val + 1)) inb) (P a b) Finset.univ hx hm) k) Q) := by
  iintro ⟨Hx, Hb, Ho⟩ Hk
  unfold xRows
  iapply (wp_load_rect 𝒱₀ (c : Thread nD τ) none Set.univ (m := xM) (r := rowRect off (sz (j.val + 1)) inb) (S := rows (kb g (j + 1) c) (sz (j + 1)))
    (by rw [xM_access_set inb hoff])) $$ Hx
  iintro Hx
  iapply (wp_accum_rest m ρ c g j hoff hD (fun i => (rowRect_full inb hoff (fun r t => X m ρ r t c) i).trans (by subst hj; rfl)) (hP _)) $$ [Hb Ho]
  · isplitl [Hb] <;> iassumption
  iintro ⟨Hb, Ho⟩
  iapply Hk
  isplitl [Hx]; · iexact Hx
  isplitl [Hb] <;> iassumption

/-- A later step's: the rows kept are read from the result buffer. -/
theorem wp_accum (c : Dev nD) (g : Fin 2) (j : Fin 4) {off : Fin 2 → ℕ} {inb} (hoff : off = ![kb g (j + 1) c, 0])
    {D : Memref sig .tc .vmem ⟨2, ![sz (j.val + 1), 512]⟩ .f32} (hD : D = commM g j)
    {P : ((⟨2, ![sz (j.val + 1), 512]⟩ : Shape).Idx → Elt F .f32) → ((⟨2, ![sz (j.val + 1), 512]⟩ : Shape).Idx → Elt F .f32) → (⟨2, ![sz (j.val + 1), 512]⟩ : Shape).Idx → Elt F .f32}
    (hP : ∀ a b i, P a b i = FloatOps.addf (a i) (b i)) {inb0 : ∀ a, (![0, 0] : Fin 2 → ℕ) a + (![sz (j.val + 1), 512] : Fin 2 → ℕ) a ≤ (![sz (j.val + 1), 512] : Fin 2 → ℕ) a} {hl1 hl2 hl3 hx hm}
    {α : Type} {Q : α → sProp 𝕄} {k : PUnit → Prog (TpuEff nD τ sig (Elt F) Λ₀ .tc) α} :
    iprop(oRows c (kb g (j + 1) c) (sz (j + 1)) (A m ρ g j c) ∗ commPts c g j (landed m ρ c g j))
      ⊢ iprop(((commAny c g j ∗ oRows c (kb g (j + 1) c) (sz (j + 1)) (A m ρ g (j + 1) c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (rowRect off (sz (j.val + 1)) inb).toLoadRect hl1) fun a =>
                .op (.load D (Rect.unit (s := ⟨2, ![sz (j.val + 1), 512]⟩) ![0, 0] ![sz (j.val + 1), 512] inb0).toLoadRect hl2) fun b =>
                .op (.load oM (rowRect off (sz (j.val + 1)) inb).toLoadRect hl3) fun _ =>
                  .op (.store oM (rowRect off (sz (j.val + 1)) inb) (P a b) Finset.univ hx hm) k) Q) := by
  iintro ⟨Hx, Hb⟩ Hk
  unfold oRows
  iapply (wp_load_rect 𝒱₀ (c : Thread nD τ) none Set.univ (m := oM) (r := rowRect off (sz (j.val + 1)) inb) (S := rows (kb g (j + 1) c) (sz (j + 1)))
    (by rw [oM_access_set inb hoff])) $$ Hx
  iintro Hx
  iapply (wp_accum_rest m ρ c g j hoff hD (fun i => rowRect_full inb hoff (A m ρ g j c) i) (hP _)) $$ [Hb Hx]
  · isplitl [Hb]; · iexact Hb
    iapply (oRows_any c _ _ (A m ρ g j c)); unfold oRows; iexact Hx
  iintro ⟨Hb, Ho⟩
  iapply Hk
  isplitl [Hb]; · iexact Hb
  unfold oRows; iexact Ho

end Cert.KernelIdealProof

end
-- ==== Proof.KernelIdeal.Halving.lean ====
/-
# A whole step: both groups' transfers, waits and additions

The first halving step, the later ones, and the doubling steps, each from what a device holds before it to what it holds
after it.
-/
module

public import proofs.«01_k».proof.Proof.KernelIdeal.Accum

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The credit of a window of rows of the size of step `j`. -/
theorem oM_credit (j : Fin 4) {off : Fin 2 → ℕ} {inb} {hs} : (oM.slice (rowRect off (sz (j.val + 1)) inb) hs).view.dmaCredit = N j := by
  fin_cases j <;> rfl
/-- The credit of a transfer of the rows of step `j` out of the input buffer. -/
theorem xM_credit (j : Fin 4) {off : Fin 2 → ℕ} {inb} {hs} : (xM.slice (rowRect off (sz (j.val + 1)) inb) hs).view.dmaCredit = N j := by
  fin_cases j <;> rfl

/-- What device `c` holds of group `g` after `n` halving steps; -/
def partialSum (c : Dev nD) (g : Fin 2) (n : ℕ) : sProp 𝕄 := oRows c (kb g n c) (sz n) (A m ρ g n c)
/-- and when the doubling steps down to `n` are done. -/
def finished (c : Dev nD) (g : Fin 2) (n : ℕ) : sProp 𝕄 := oRows c (kb g n c) (sz n) (OUT m ρ)
/-- The part of the partner's result buffer that the doubling step undoing step `j` writes. -/
def room (c : Dev nD) (g : Fin 2) (j : Fin 4) : sProp 𝕄 := oAny (pt g j c) (kb g (j + 1) c) (sz (j + 1))
/-- The rights of both of a transfer's ends at device `c`. -/
def rights (c : Dev nD) (s : Slot) : sProp 𝕄 := iprop(tx c s ∗ rx c s)

/-- The windows of the step programs. -/
abbrev oW (off : Fin 2 → ℕ) (h : ℕ) (inb : ∀ a, off a + (![h, 512] : Fin 2 → ℕ) a ≤ S1024x512.size a) : Memref sig .tc .vmem ⟨2, ![h, 512]⟩ .f32 :=
  oM.slice (rowRect off h inb) (fun _ => rfl)
/-- Rows of the input buffer as a transfer names them. -/
abbrev xW (off : Fin 2 → ℕ) (h : ℕ) (inb : ∀ a, off a + (![h, 512] : Fin 2 → ℕ) a ≤ S1024x512.size a) : Memref sig .tc .vmem ⟨2, ![h, 512]⟩ .f32 :=
  xM.slice (rowRect off h inb) (fun _ => rfl)
/-- A landing buffer's whole rectangle. -/
abbrev whole (h : ℕ) (inb : ∀ a, (![0, 0] : Fin 2 → ℕ) a + (![h, 512] : Fin 2 → ℕ) a ≤ (![h, 512] : Fin 2 → ℕ) a) : Rect ⟨2, ![h, 512]⟩ :=
  Rect.unit (s := ⟨2, ![h, 512]⟩) ![0, 0] ![h, 512] inb
/-- Blocks of rows of a step. -/
abbrev Blk (F : FTy → Type) [FloatOps F] (j : Fin 4) : Type := (⟨2, ![sz (j.val + 1), 512]⟩ : Shape).Idx → Elt F .f32

/-- The rows held before a halving step are those given up and those kept. -/
theorem partialSum_split (c : Dev nD) (g : Fin 2) (j : Fin 4) :
    (partialSum m ρ c g j : sProp 𝕄) ⊢ iprop(oRows c (kb g (j + 1) c) (sz (j + 1)) (A m ρ g j c) ∗ oRows c (kb g (j + 1) (pt g j c)) (sz (j + 1)) (A m ρ g j c)) := by
  unfold partialSum; exact (oRows_split c g j _).1

/-- A device's finished rows and its partner's are the finished rows after the doubling step. -/
theorem finished_join (c : Dev nD) (g : Fin 2) (j : Fin 4) :
    iprop(finished m ρ c g (j + 1) ∗ oRows c (kb g (j + 1) (pt g j c)) (sz (j + 1)) (OUT m ρ)) ⊢ (finished m ρ c g j : sProp 𝕄) := by
  unfold finished; exact (oRows_split c g j _).2

/-- After four halvings the rows held are finished. -/
theorem finish (c : Dev nD) (g : Fin 2) : (partialSum m ρ c g 4 : sProp 𝕄) = finished m ρ c g 4 := oRows_finish m ρ c g

/-- A halving step after the first. -/
theorem wp_halving (K : Dev nD × CellIx → ℕ) (c : Dev nD) (j : Fin 4) (hj : j ≠ 0) (l : List Pay)
    (hl1 : ∀ p ∈ l, 2 + place false j < plevel p)
    {n0 n1 : Dev nD} (hn0 : n0 = pt 0 j c) (hn1 : n1 = pt 1 j c)
    {f0 f1 k0 k1 : Fin 2 → ℕ} {if0 if1 ik0 ik1 ib}
    (hf0 : f0 = ![kb 0 (j + 1) (pt 0 j c), 0]) (hf1 : f1 = ![kb 1 (j + 1) (pt 1 j c), 0])
    (hk0 : k0 = ![kb 0 (j + 1) c, 0]) (hk1 : k1 = ![kb 1 (j + 1) c, 0])
    {D0 D1 : Memref sig .tc .vmem ⟨2, ![sz (j.val + 1), 512]⟩ .f32} (hD0 : D0 = commM 0 j) (hD1 : D1 = commM 1 j)
    {S0 R0 S1 R1 : DmaSem sig} (hS0 : S0 = dsem false (0, false, j)) (hR0 : R0 = dsem true (0, false, j))
    (hS1 : S1 = dsem false (1, false, j)) (hR1 : R1 = dsem true (1, false, j))
    {P0 P1 : Blk F j → Blk F j → Blk F j} (hP0 : ∀ a b i, P0 a b i = FloatOps.addf (a i) (b i)) (hP1 : ∀ a b i, P1 a b i = FloatOps.addf (a i) (b i))
    {hsc0 : (D0 : Memref sig (Dev.tc n0 : Thread nD τ).2.kind .vmem _ .f32).view.ref.isScScratch = false}
    {hsc1 : (D1 : Memref sig (Dev.tc n1 : Thread nD τ).2.kind .vmem _ .f32).view.ref.isScScratch = false}
    {a1 a2 a3 b1 b2 b3 c1 c2 c3 c4 d1 d2 d3 d4 e1 e2 e3 e4 e5 g1 g2 g3 g4 g5}
    {α : Type} {Q : α → sProp 𝕄} {k : PUnit → Prog (TpuEff nD τ sig (Elt F) Λ₀ .tc) α} :
    iprop(records m ρ K ∗ levAts L lv ∗ (partialSum m ρ c 0 j ∗ partialSum m ρ c 1 j) ∗ (commAny (pt 0 j c) 0 j ∗ commAny (pt 1 j c) 1 j)
        ∗ (rights c (0, false, j) ∗ rights c (1, false, j)) ∗ ow c (.inr (0, false, j) :: .inr (1, false, j) :: l))
      ⊢ iprop((((partialSum m ρ c 0 (j + 1) ∗ partialSum m ρ c 1 (j + 1)) ∗ (commAny c 0 j ∗ commAny c 1 j) ∗ (room c 0 j ∗ room c 1 j)
              ∗ (spent c (0, false, j) ∗ spent c (1, false, j)) ∗ ow c l)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oW f0 (sz (j.val + 1)) if0) (.remote (Dev.tc n0 : Thread nD τ) D0 (.dma S0) hsc0) (.dma R0) a1 a2 a3) fun _ =>
             .op (.enqueueDma (oW f1 (sz (j.val + 1)) if1) (.remote (Dev.tc n1 : Thread nD τ) D1 (.dma S1) hsc1) (.dma R1) b1 b2 b3) fun _ =>
             .op (.waitDma2 S0 D0 (oW f0 (sz (j.val + 1)) if0) c1 c2) fun _ => .op (.waitDma2 R0 (oW f0 (sz (j.val + 1)) if0) D0 c3 c4) fun _ =>
             .op (.waitDma2 S1 D1 (oW f1 (sz (j.val + 1)) if1) d1 d2) fun _ => .op (.waitDma2 R1 (oW f1 (sz (j.val + 1)) if1) D1 d3 d4) fun _ =>
             .op (.load oM (rowRect k0 (sz (j.val + 1)) ik0).toLoadRect e1) fun x0 => .op (.load D0 (whole (sz (j.val + 1)) ib).toLoadRect e2) fun y0 =>
             .op (.load oM (rowRect k0 (sz (j.val + 1)) ik0).toLoadRect e3) fun _ => .op (.store oM (rowRect k0 (sz (j.val + 1)) ik0) (P0 x0 y0) Finset.univ e4 e5) fun _ =>
             .op (.load oM (rowRect k1 (sz (j.val + 1)) ik1).toLoadRect g1) fun x1 => .op (.load D1 (whole (sz (j.val + 1)) ib).toLoadRect g2) fun y1 =>
             .op (.load oM (rowRect k1 (sz (j.val + 1)) ik1).toLoadRect g3) fun _ => .op (.store oM (rowRect k1 (sz (j.val + 1)) ik1) (P1 x1 y1) Finset.univ g4 g5) k) Q) := by
  unfold rights
  iintro ⟨#HR, #Hlev, ⟨H0, H1⟩, ⟨HC0, HC1⟩, ⟨⟨Ht0, Hr0⟩, ⟨Ht1, Hr1⟩⟩, HO⟩ Hk
  ihave H0 := (partialSum_split m ρ c 0 j) $$ H0
  ihave H1 := (partialSum_split m ρ c 1 j) $$ H1
  icases H0 with ⟨Hk0, Hf0⟩
  icases H1 with ⟨Hk1, Hf1⟩
  iapply (wp_send_half m ρ K c 0 j hj (.inr (1, false, j) :: l) hn0 hf0 hD0 hS0 hR0) $$ [Hf0 HC0 HO Ht0]
  · isplitr; · iexact HR
    isplitl [Hf0]; · iexact Hf0
    isplitl [HC0]; · iexact HC0
    isplitl [HO] <;> iassumption
  iintro ⟨Hs0, HO⟩
  iapply (wp_send_half m ρ K c 1 j hj l hn1 hf1 hD1 hS1 hR1) $$ [Hf1 HC1 HO Ht1]
  · isplitr; · iexact HR
    isplitl [Hf1]; · iexact Hf1
    isplitl [HC1]; · iexact HC1
    isplitl [HO] <;> iassumption
  iintro ⟨Hs1, HO⟩
  iapply (wp_wait_both m ρ K c (0, false, j) l hl1 hS0 hR0 (oM_credit j) (hD0 ▸ commM_credit 0 j)) $$ [Hs0 Hr0 HO]
  · isplitr; · iexact HR
    isplitr; · iexact Hlev
    isplitl [Hs0]; · iexact Hs0
    isplitl [Hr0] <;> iassumption
  iintro ⟨-, Hp0, HO, Hz0⟩
  iapply (wp_wait_both m ρ K c (1, false, j) l hl1 hS1 hR1 (oM_credit j) (hD1 ▸ commM_credit 1 j)) $$ [Hs1 Hr1 HO]
  · isplitr; · iexact HR
    isplitr; · iexact Hlev
    isplitl [Hs1]; · iexact Hs1
    isplitl [Hr1] <;> iassumption
  iintro ⟨-, Hp1, HO, Hz1⟩
  ihave Hp0 := (Entails.of_eq (recvPay_half m ρ c 0 j hj)) $$ Hp0
  ihave Hp1 := (Entails.of_eq (recvPay_half m ρ c 1 j hj)) $$ Hp1
  icases Hp0 with ⟨HC0, Hroom0⟩
  icases Hp1 with ⟨HC1, Hroom1⟩
  iapply (wp_accum m ρ c 0 j hk0 hD0 hP0) $$ [Hk0 HC0]
  · isplitl [Hk0] <;> iassumption
  iintro ⟨HC0, Hk0⟩
  iapply (wp_accum m ρ c 1 j hk1 hD1 hP1) $$ [Hk1 HC1]
  · isplitl [Hk1] <;> iassumption
  iintro ⟨HC1, Hk1⟩
  iapply Hk
  unfold partialSum room
  isplitl [Hk0 Hk1]; · isplitl [Hk0] <;> iassumption
  isplitl [HC0 HC1]; · isplitl [HC0] <;> iassumption
  isplitl [Hroom0 Hroom1]; · isplitl [Hroom0] <;> iassumption
  isplitl [Hz0 Hz1]; · isplitl [Hz0] <;> iassumption
  iexact HO

/-- The first halving step, from the input buffer. -/
theorem wp_halving_first (K : Dev nD × CellIx → ℕ) (c : Dev nD) (j : Fin 4) (hj : j = 0) (l : List Pay)
    (hl1 : ∀ p ∈ l, 2 + place false j < plevel p)
    {n0 n1 : Dev nD} (hn0 : n0 = pt 0 j c) (hn1 : n1 = pt 1 j c)
    {f0 f1 k0 k1 : Fin 2 → ℕ} {if0 if1 ik0 ik1 ib}
    (hf0 : f0 = ![kb 0 (j + 1) (pt 0 j c), 0]) (hf1 : f1 = ![kb 1 (j + 1) (pt 1 j c), 0])
    (hk0 : k0 = ![kb 0 (j + 1) c, 0]) (hk1 : k1 = ![kb 1 (j + 1) c, 0])
    {D0 D1 : Memref sig .tc .vmem ⟨2, ![sz (j.val + 1), 512]⟩ .f32} (hD0 : D0 = commM 0 j) (hD1 : D1 = commM 1 j)
    {S0 R0 S1 R1 : DmaSem sig} (hS0 : S0 = dsem false (0, false, j)) (hR0 : R0 = dsem true (0, false, j))
    (hS1 : S1 = dsem false (1, false, j)) (hR1 : R1 = dsem true (1, false, j))
    {P0 P1 : Blk F j → Blk F j → Blk F j} (hP0 : ∀ a b i, P0 a b i = FloatOps.addf (a i) (b i)) (hP1 : ∀ a b i, P1 a b i = FloatOps.addf (a i) (b i))
    {hsc0 : (D0 : Memref sig (Dev.tc n0 : Thread nD τ).2.kind .vmem _ .f32).view.ref.isScScratch = false}
    {hsc1 : (D1 : Memref sig (Dev.tc n1 : Thread nD τ).2.kind .vmem _ .f32).view.ref.isScScratch = false}
    {a1 a2 a3 b1 b2 b3 c1 c2 c3 c4 d1 d2 d3 d4 e1 e2 e3 e4 e5 g1 g2 g3 g4 g5}
    {α : Type} {Q : α → sProp 𝕄} {k : PUnit → Prog (TpuEff nD τ sig (Elt F) Λ₀ .tc) α} :
    iprop(records m ρ K ∗ levAts L lv ∗ (((c : Thread nD τ).loc cc0_stg0_0) ↦{fullShare} full fun r t => X m ρ r t c)
        ∗ (oAny c (kb 0 (j + 1) c) (sz (j + 1)) ∗ oAny c (kb 1 (j + 1) c) (sz (j + 1))) ∗ (commAny (pt 0 j c) 0 j ∗ commAny (pt 1 j c) 1 j)
        ∗ (rights c (0, false, j) ∗ rights c (1, false, j)) ∗ ow c (.inr (0, false, j) :: .inr (1, false, j) :: l))
      ⊢ iprop((((((c : Thread nD τ).loc cc0_stg0_0) ↦{fullShare} full fun r t => X m ρ r t c)
              ∗ (partialSum m ρ c 0 (j + 1) ∗ partialSum m ρ c 1 (j + 1)) ∗ (commAny c 0 j ∗ commAny c 1 j)
              ∗ (spent c (0, false, j) ∗ spent c (1, false, j)) ∗ ow c l)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xW f0 (sz (j.val + 1)) if0) (.remote (Dev.tc n0 : Thread nD τ) D0 (.dma S0) hsc0) (.dma R0) a1 a2 a3) fun _ =>
             .op (.enqueueDma (xW f1 (sz (j.val + 1)) if1) (.remote (Dev.tc n1 : Thread nD τ) D1 (.dma S1) hsc1) (.dma R1) b1 b2 b3) fun _ =>
             .op (.waitDma2 S0 D0 (xW f0 (sz (j.val + 1)) if0) c1 c2) fun _ => .op (.waitDma2 R0 (xW f0 (sz (j.val + 1)) if0) D0 c3 c4) fun _ =>
             .op (.waitDma2 S1 D1 (xW f1 (sz (j.val + 1)) if1) d1 d2) fun _ => .op (.waitDma2 R1 (xW f1 (sz (j.val + 1)) if1) D1 d3 d4) fun _ =>
             .op (.load xM (rowRect k0 (sz (j.val + 1)) ik0).toLoadRect e1) fun x0 => .op (.load D0 (whole (sz (j.val + 1)) ib).toLoadRect e2) fun y0 =>
             .op (.load oM (rowRect k0 (sz (j.val + 1)) ik0).toLoadRect e3) fun _ => .op (.store oM (rowRect k0 (sz (j.val + 1)) ik0) (P0 x0 y0) Finset.univ e4 e5) fun _ =>
             .op (.load xM (rowRect k1 (sz (j.val + 1)) ik1).toLoadRect g1) fun x1 => .op (.load D1 (whole (sz (j.val + 1)) ib).toLoadRect g2) fun y1 =>
             .op (.load oM (rowRect k1 (sz (j.val + 1)) ik1).toLoadRect g3) fun _ => .op (.store oM (rowRect k1 (sz (j.val + 1)) ik1) (P1 x1 y1) Finset.univ g4 g5) k) Q) := by
  unfold rights
  have hx : (((c : Thread nD τ).loc cc0_stg0_0) ↦{fullShare} full fun r t => X m ρ r t c : sProp 𝕄)
      ⊣⊢ iprop((xRows c (kb 0 (j + 1) c) (sz (j + 1)) (fun r t => X m ρ r t c) ∗ xRows c (kb 0 (j + 1) (pt 0 j c)) (sz (j + 1)) (fun r t => X m ρ r t c))
        ∗ (xRows c (kb 1 (j + 1) c) (sz (j + 1)) (fun r t => X m ρ r t c) ∗ xRows c (kb 1 (j + 1) (pt 1 j c)) (sz (j + 1)) (fun r t => X m ρ r t c))) := by
    subst hj; exact x_quarters c _
  iintro ⟨#HR, #Hlev, Hx, ⟨Ho0, Ho1⟩, ⟨HC0, HC1⟩, ⟨⟨Ht0, Hr0⟩, ⟨Ht1, Hr1⟩⟩, HO⟩ Hk
  ihave Hx := hx.1 $$ Hx
  icases Hx with ⟨⟨Hk0, Hf0⟩, ⟨Hk1, Hf1⟩⟩
  iapply (wp_send_first m ρ K c 0 j hj (.inr (1, false, j) :: l) hn0 hf0 hD0 hS0 hR0) $$ [Hf0 HC0 HO Ht0]
  · isplitr; · iexact HR
    isplitl [Hf0]; · iexact Hf0
    isplitl [HC0]; · iexact HC0
    isplitl [HO] <;> iassumption
  iintro ⟨Hs0, HO⟩
  iapply (wp_send_first m ρ K c 1 j hj l hn1 hf1 hD1 hS1 hR1) $$ [Hf1 HC1 HO Ht1]
  · isplitr; · iexact HR
    isplitl [Hf1]; · iexact Hf1
    isplitl [HC1]; · iexact HC1
    isplitl [HO] <;> iassumption
  iintro ⟨Hs1, HO⟩
  iapply (wp_wait_both m ρ K c (0, false, j) l hl1 hS0 hR0 (xM_credit j) (hD0 ▸ commM_credit 0 j)) $$ [Hs0 Hr0 HO]
  · isplitr; · iexact HR
    isplitr; · iexact Hlev
    isplitl [Hs0]; · iexact Hs0
    isplitl [Hr0] <;> iassumption
  iintro ⟨Hf0, Hp0, HO, Hz0⟩
  iapply (wp_wait_both m ρ K c (1, false, j) l hl1 hS1 hR1 (xM_credit j) (hD1 ▸ commM_credit 1 j)) $$ [Hs1 Hr1 HO]
  · isplitr; · iexact HR
    isplitr; · iexact Hlev
    isplitl [Hs1]; · iexact Hs1
    isplitl [Hr1] <;> iassumption
  iintro ⟨Hf1, Hp1, HO, Hz1⟩
  ihave Hf0 := (Entails.of_eq (sendPay_first m ρ c 0 j hj)) $$ Hf0
  ihave Hf1 := (Entails.of_eq (sendPay_first m ρ c 1 j hj)) $$ Hf1
  ihave Hp0 := (Entails.of_eq (recvPay_first m ρ c 0 j hj)) $$ Hp0
  ihave Hp1 := (Entails.of_eq (recvPay_first m ρ c 1 j hj)) $$ Hp1
  icases Hp0 with ⟨HC0, -⟩
  icases Hp1 with ⟨HC1, -⟩
  iapply (wp_accum_first m ρ c 0 j hj hk0 hD0 hP0) $$ [Hk0 HC0 Ho0]
  · isplitl [Hk0]; · iexact Hk0
    isplitl [HC0] <;> iassumption
  iintro ⟨Hk0, HC0, Ho0⟩
  iapply (wp_accum_first m ρ c 1 j hj hk1 hD1 hP1) $$ [Hk1 HC1 Ho1]
  · isplitl [Hk1]; · iexact Hk1
    isplitl [HC1] <;> iassumption
  iintro ⟨Hk1, HC1, Ho1⟩
  iapply Hk
  unfold partialSum
  isplitl [Hk0 Hf0 Hk1 Hf1]
  · iapply hx.2
    isplitl [Hk0 Hf0]; · isplitl [Hk0] <;> iassumption
    isplitl [Hk1] <;> iassumption
  isplitl [Ho0 Ho1]; · isplitl [Ho0] <;> iassumption
  isplitl [HC0 HC1]; · isplitl [HC0] <;> iassumption
  isplitl [Hz0 Hz1]; · isplitl [Hz0] <;> iassumption
  iexact HO

/-- A doubling step. -/
theorem wp_doubling (K : Dev nD × CellIx → ℕ) (c : Dev nD) (j : Fin 4) (l : List Pay) (hl1 : ∀ p ∈ l, 2 + place true j < plevel p)
    {n0 n1 : Dev nD} (hn0 : n0 = pt 0 j c) (hn1 : n1 = pt 1 j c)
    {f0 f1 : Fin 2 → ℕ} {if0 if1} (hf0 : f0 = ![kb 0 (j + 1) c, 0]) (hf1 : f1 = ![kb 1 (j + 1) c, 0])
    {S0 R0 S1 R1 : DmaSem sig} (hS0 : S0 = dsem false (0, true, j)) (hR0 : R0 = dsem true (0, true, j))
    (hS1 : S1 = dsem false (1, true, j)) (hR1 : R1 = dsem true (1, true, j))
    {hsc0 : ((oW f0 (sz (j.val + 1)) if0) : Memref sig (Dev.tc n0 : Thread nD τ).2.kind .vmem _ .f32).view.ref.isScScratch = false}
    {hsc1 : ((oW f1 (sz (j.val + 1)) if1) : Memref sig (Dev.tc n1 : Thread nD τ).2.kind .vmem _ .f32).view.ref.isScScratch = false}
    {a1 a2 a3 b1 b2 b3 c1 c2 c3 c4 d1 d2 d3 d4}
    {α : Type} {Q : α → sProp 𝕄} {k : PUnit → Prog (TpuEff nD τ sig (Elt F) Λ₀ .tc) α} :
    iprop(records m ρ K ∗ levAts L lv ∗ (finished m ρ c 0 (j + 1) ∗ finished m ρ c 1 (j + 1)) ∗ (room c 0 j ∗ room c 1 j)
        ∗ (rights c (0, true, j) ∗ rights c (1, true, j)) ∗ ow c (.inr (0, true, j) :: .inr (1, true, j) :: l))
      ⊢ iprop((((finished m ρ c 0 j ∗ finished m ρ c 1 j) ∗ (spent c (0, true, j) ∗ spent c (1, true, j)) ∗ ow c l)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oW f0 (sz (j.val + 1)) if0) (.remote (Dev.tc n0 : Thread nD τ) (oW f0 (sz (j.val + 1)) if0) (.dma S0) hsc0) (.dma R0) a1 a2 a3) fun _ =>
             .op (.enqueueDma (oW f1 (sz (j.val + 1)) if1) (.remote (Dev.tc n1 : Thread nD τ) (oW f1 (sz (j.val + 1)) if1) (.dma S1) hsc1) (.dma R1) b1 b2 b3) fun _ =>
             .op (.waitDma2 S0 (oW f0 (sz (j.val + 1)) if0) (oW f0 (sz (j.val + 1)) if0) c1 c2) fun _ => .op (.waitDma2 R0 (oW f0 (sz (j.val + 1)) if0) (oW f0 (sz (j.val + 1)) if0) c3 c4) fun _ =>
             .op (.waitDma2 S1 (oW f1 (sz (j.val + 1)) if1) (oW f1 (sz (j.val + 1)) if1) d1 d2) fun _ => .op (.waitDma2 R1 (oW f1 (sz (j.val + 1)) if1) (oW f1 (sz (j.val + 1)) if1) d3 d4) k) Q) := by
  unfold rights
  iintro ⟨#HR, #Hlev, ⟨H0, H1⟩, ⟨HC0, HC1⟩, ⟨⟨Ht0, Hr0⟩, ⟨Ht1, Hr1⟩⟩, HO⟩ Hk
  ihave H0 := (Entails.of_eq (finished.eq_def m ρ c 0 (j + 1))) $$ H0
  ihave H1 := (Entails.of_eq (finished.eq_def m ρ c 1 (j + 1))) $$ H1
  unfold room
  iapply (wp_send_double m ρ K c 0 j (.inr (1, true, j) :: l) hn0 hf0 hS0 hR0 (oM_credit j)) $$ [H0 HC0 HO Ht0]
  · isplitr; · iexact HR
    isplitl [H0]; · iexact H0
    isplitl [HC0]; · iexact HC0
    isplitl [HO] <;> iassumption
  iintro ⟨Hs0, HO⟩
  iapply (wp_send_double m ρ K c 1 j l hn1 hf1 hS1 hR1 (oM_credit j)) $$ [H1 HC1 HO Ht1]
  · isplitr; · iexact HR
    isplitl [H1]; · iexact H1
    isplitl [HC1]; · iexact HC1
    isplitl [HO] <;> iassumption
  iintro ⟨Hs1, HO⟩
  iapply (wp_wait_both m ρ K c (0, true, j) l hl1 hS0 hR0 (oM_credit j) (oM_credit j)) $$ [Hs0 Hr0 HO]
  · isplitr; · iexact HR
    isplitr; · iexact Hlev
    isplitl [Hs0]; · iexact Hs0
    isplitl [Hr0] <;> iassumption
  iintro ⟨Hf0, Hp0, HO, Hz0⟩
  iapply (wp_wait_both m ρ K c (1, true, j) l hl1 hS1 hR1 (oM_credit j) (oM_credit j)) $$ [Hs1 Hr1 HO]
  · isplitr; · iexact HR
    isplitr; · iexact Hlev
    isplitl [Hs1]; · iexact Hs1
    isplitl [Hr1] <;> iassumption
  iintro ⟨Hf1, Hp1, HO, Hz1⟩
  ihave Hf0 := (Entails.of_eq (sendPay_double m ρ c 0 j)) $$ Hf0
  ihave Hf1 := (Entails.of_eq (sendPay_double m ρ c 1 j)) $$ Hf1
  ihave Hp0 := (Entails.of_eq (recvPay_double m ρ c 0 j)) $$ Hp0
  ihave Hp1 := (Entails.of_eq (recvPay_double m ρ c 1 j)) $$ Hp1
  iapply Hk
  isplitl [Hf0 Hp0 Hf1 Hp1]
  · isplitl [Hf0 Hp0]
    · iapply (finished_join m ρ c 0 j); unfold finished; isplitl [Hf0] <;> iassumption
    · iapply (finished_join m ρ c 1 j); unfold finished; isplitl [Hf1] <;> iassumption
  isplitl [Hz0 Hz1]; · isplitl [Hz0] <;> iassumption
  iexact HO

end Cert.KernelIdealProof

end
-- ==== Proof.KernelIdeal.Entry.lean ====
/-
# The entry handshake

Each device signals its four partners and waits for all four: what a signal hands over is the signaller's landing buffers
and, along the two dimensions of the first steps, part of its result buffer.
-/
module

public import proofs.«01_k».proof.Proof.KernelIdeal.Halving

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The payload of a signal, with the barrier cell written out; -/
theorem payload_reg (c : Dev nD) (d : Fin 4) : (Rd (F := F) m ρ).payload ((c : Thread nD τ), SemLoc.reg barS) 0 d = pay m ρ c none d := Rd_payload m ρ c none d
/-- what a device gets that waits for all four signals, likewise. -/
theorem rest_reg (c : Dev nD) :
    bigSep ((Rd (F := F) m ρ).duties ((c : Thread nD τ), SemLoc.reg barS) 0 \ ∅) (fun d => (Rd (F := F) m ρ).payload ((c : Thread nD τ), SemLoc.reg barS) 0 d)
      = iprop(barPay c 0 ∗ barPay c 1 ∗ barPay c 2 ∗ barPay c 3) := rest_bar m ρ c

/-- One signal of the handshake. -/
theorem wp_entry_signal (K : Dev nD × CellIx → ℕ) (c : Dev nD) (d : Fin 4) (l : List Pay) {n : Dev nD} (hn : n = flip d c)
    {α : Type} {Q : α → sProp 𝕄} {k : PUnit → Prog (TpuEff nD τ sig (Elt F) Λ₀ .tc) α} :
    iprop(records m ρ K ∗ ow c (.inl d :: l) ∗ dutyTok ER (kcell (flip d c) none) 0 d ∗ barPay (flip d c) d)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toInt) k) Q) := by
  subst hn
  unfold ow
  iintro ⟨#HR, ⟨%W, HO⟩, Ht, Hp⟩ Hk
  iapply (Rounds.wp_signal 𝒱₀ ER (Rd m ρ) (c : Thread nD τ) none (dst := (flip d c : Thread nD τ)) (sem := barS) (κ := K (flip d c, none))
      (d := d) (r := 0) ((Rd_duties m ρ (flip d c) none).symm ▸ Finset.mem_univ d) ((Rd_amount m ρ (flip d c) none d).trans (by decide)) () (owing c l) rfl)
    $$ [HO Ht Hp]
  · isplitr; · iapply (inv_at m ρ K (flip d c) none); iexact HR
    isplitl [HO]; · iexact HO
    isplitl [Ht]; · iexact Ht
    isplitl [Hp]
    · iapply (Entails.of_eq (payload_reg m ρ (flip d c) d).symm)
      iapply (Entails.of_eq (show barPay (flip d c) d = pay m ρ (flip d c) none d from rfl)); iexact Hp
    · iapply (reached_at m ρ K (flip d c) none); iexact HR
  iintro HO
  iapply Hk
  iexists W; iexact HO

/-- The wait of the handshake. -/
theorem wp_entry_wait (K : Dev nD × CellIx → ℕ) (c : Dev nD) (l : List Pay) (hl : ∀ p ∈ l, 1 < plevel p)
    {α : Type} {Q : α → sProp 𝕄} {k : PUnit → Prog (TpuEff nD τ sig (Elt F) Λ₀ .tc) α} :
    iprop(records m ρ K ∗ levAts L lv ∗ ow c l ∗ cred (tallyAt (kcell c none) () 4) ∗ atPos ER (kcell c none) 0 ∅ 0)
      ⊢ iprop(((ow c l ∗ (barPay c 0 ∗ barPay c 1 ∗ barPay c 2 ∗ barPay c 3) ∗ semVal (kcell c none) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (4#32).toInt) k) Q) := by
  unfold ow
  iintro ⟨#HR, #Hlev, ⟨%W, HO⟩, Hc, Hat⟩ Hk
  iapply (Rounds.wp_wait_rest_token 𝒱₀ ER (Rd m ρ) (c : Thread nD τ) none (κ := K (c, none)) (sm := SemLoc.reg barS) (k' := 4)
      (wpE_semWait_eq 𝒱₀ (c : Thread nD τ) none Set.univ) (Set.mem_univ _) () (O := owing c l) (W := W) (R := 0) (m := 0) (T := ∅)
      (by rw [Nat.zero_add]; exact (Rd_expect_bar m ρ c).symm)) $$ [Hc HO Hat]
  · isplitr; · iapply (inv_at m ρ K c none); iexact HR
    isplitl [Hc]; · iexact Hc
    isplitl [HO]; · iexact HO
    isplitr
    · iapply (mayWait c _ l 1 (by rw [show ((c : Thread nD τ), SemLoc.reg barS) = kcell c none from rfl, lv_kcell]; exact Nat.le_refl _) hl)
      iexact Hlev
    iexact Hat
  iintro ⟨HO, Hat, -, Hpay⟩
  ihave Hp := (Entails.of_eq (rest_reg m ρ c)) $$ Hpay
  imod (Rounds.cell_close ER (Rd m ρ) (Set.mem_univ (K (c, none))) (fun h => h) (R := 0 + 1) (Rd_duties_later m ρ (kcell c none))) $$ [Hat] with Hz
  · isplitr; · iapply (inv_at m ρ K c none); iexact HR
    iexact Hat
  iapply Hk
  isplitl [HO]; · iexists _; iexact HO
  isplitl [Hp] <;> iassumption

/-! ## What the handshake hands over -/

/-- All of a device's landing buffers. -/
def landings (c : Dev nD) : sProp 𝕄 :=
  iprop((commAny c 0 0 ∗ commAny c 0 1 ∗ commAny c 0 2 ∗ commAny c 0 3) ∗ (commAny c 1 0 ∗ commAny c 1 1 ∗ commAny c 1 2 ∗ commAny c 1 3))
/-- Its partners' landing buffers, each of the step the partner is the partner of. -/
def lent (c : Dev nD) : sProp 𝕄 :=
  iprop((commAny (pt 0 0 c) 0 0 ∗ commAny (pt 0 1 c) 0 1 ∗ commAny (pt 0 2 c) 0 2 ∗ commAny (pt 0 3 c) 0 3)
    ∗ (commAny (pt 1 0 c) 1 0 ∗ commAny (pt 1 1 c) 1 1 ∗ commAny (pt 1 2 c) 1 2 ∗ commAny (pt 1 3 c) 1 3))

omit [FloatOps F] in
/-- What the partner along each dimension hands over, written out: dimension 0, -/
theorem barPay_0 (c : Dev nD) : (barPay c 0 : sProp 𝕄) = iprop(commAny (flip 0 c) 0 0 ∗ commAny (flip 0 c) 1 2 ∗ oAny (flip 0 c) (kb 0 1 c) (sz 1)) := by
  unfold barPay; rw [if_pos rfl]; rfl
omit [FloatOps F] in
/-- dimension 1, -/
theorem barPay_1 (c : Dev nD) : (barPay c 1 : sProp 𝕄) = iprop(commAny (flip 1 c) 0 1 ∗ commAny (flip 1 c) 1 3 ∗ emp) := by
  unfold barPay; rw [if_neg (by decide), if_neg (by decide)]; rfl
omit [FloatOps F] in
/-- dimension 2, -/
theorem barPay_2 (c : Dev nD) : (barPay c 2 : sProp 𝕄) = iprop(commAny (flip 2 c) 0 2 ∗ commAny (flip 2 c) 1 0 ∗ oAny (flip 2 c) (kb 1 1 c) (sz 1)) := by
  unfold barPay; rw [if_neg (by decide), if_pos rfl]; rfl
omit [FloatOps F] in
/-- dimension 3. -/
theorem barPay_3 (c : Dev nD) : (barPay c 3 : sProp 𝕄) = iprop(commAny (flip 3 c) 0 3 ∗ commAny (flip 3 c) 1 1 ∗ emp) := by
  unfold barPay; rw [if_neg (by decide), if_neg (by decide)]; rfl

omit [FloatOps F] in
/-- The landing buffers and the lent rows of a device are what it hands over with its four signals. -/
theorem barPay_give (c : Dev nD) :
    iprop(landings c ∗ oAny c (kb 0 1 (pt 0 0 c)) (sz 1) ∗ oAny c (kb 1 1 (pt 1 0 c)) (sz 1))
      ⊢ (iprop(barPay (flip 0 c) 0 ∗ barPay (flip 1 c) 1 ∗ barPay (flip 2 c) 2 ∗ barPay (flip 3 c) 3) : sProp 𝕄) := by
  rw [barPay_0, barPay_1, barPay_2, barPay_3]
  simp only [Cube.flip_flip]
  unfold landings
  iintro ⟨⟨⟨H00, H01, H02, H03⟩, ⟨H10, H11, H12, H13⟩⟩, Ho0, Ho1⟩
  isplitl [H00 H12 Ho0]
  · isplitl [H00]; · iexact H00
    isplitl [H12]; · iexact H12
    iexact Ho0
  isplitl [H01 H13]
  · isplitl [H01]; · iexact H01
    isplitl [H13]; · iexact H13
    iempintro
  isplitl [H02 H10 Ho1]
  · isplitl [H02]; · iexact H02
    isplitl [H10]; · iexact H10
    iexact Ho1
  isplitl [H03]; · iexact H03
  isplitl [H11]; · iexact H11
  iempintro

omit [FloatOps F] in
/-- What the four partners hand over is what the device's eight first transfers need. -/
theorem barPay_take (c : Dev nD) :
    (iprop(barPay c 0 ∗ barPay c 1 ∗ barPay c 2 ∗ barPay c 3) : sProp 𝕄) ⊢ iprop(lent c ∗ room c 0 0 ∗ room c 1 0) := by
  rw [barPay_0, barPay_1, barPay_2, barPay_3]
  unfold lent room
  iintro ⟨⟨H00, H12, Ho0⟩, ⟨H01, H13, -⟩, ⟨H02, H10, Ho1⟩, ⟨H03, H11, -⟩⟩
  isplitl [H00 H12 H01 H13 H02 H10 H03 H11]
  · isplitl [H00 H01 H02 H03]
    · isplitl [H00]; · iexact H00
      isplitl [H01]; · iexact H01
      isplitl [H02]; · iexact H02
      iexact H03
    · isplitl [H10]; · iexact H10
      isplitl [H11]; · iexact H11
      isplitl [H12]; · iexact H12
      iexact H13
  isplitl [Ho0]; · iexact Ho0
  iexact Ho1

/-- The rights to the four signals. -/
def entryToks (c : Dev nD) : sProp 𝕄 :=
  iprop(dutyTok ER (kcell (flip 0 c) none) 0 0 ∗ dutyTok ER (kcell (flip 1 c) none) 0 1 ∗ dutyTok ER (kcell (flip 2 c) none) 0 2 ∗ dutyTok ER (kcell (flip 3 c) none) 0 3)

/-- The handshake. -/
theorem wp_entry (K : Dev nD × CellIx → ℕ) (c : Dev nD) (l : List Pay) (hl : ∀ p ∈ l, 1 < plevel p)
    {n0 n1 n2 n3 : Dev nD} (hn0 : n0 = flip 0 c) (hn1 : n1 = flip 1 c) (hn2 : n2 = flip 2 c) (hn3 : n3 = flip 3 c)
    {α : Type} {Q : α → sProp 𝕄} {k : PUnit → Prog (TpuEff nD τ sig (Elt F) Λ₀ .tc) α} :
    iprop(records m ρ K ∗ levAts L lv ∗ (landings c ∗ oAny c (kb 0 1 (pt 0 0 c)) (sz 1) ∗ oAny c (kb 1 1 (pt 1 0 c)) (sz 1)) ∗ entryToks c
        ∗ (cred (tallyAt (kcell c none) () 4) ∗ atPos ER (kcell c none) 0 ∅ 0) ∗ ow c (.inl 0 :: .inl 1 :: .inl 2 :: .inl 3 :: l))
      ⊢ iprop((((lent c ∗ room c 0 0 ∗ room c 1 0) ∗ semVal (kcell c none) 0 ∗ ow c l)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (Dev.tc n0 : Thread nD τ) barS (1#32).toInt) fun _ => .op (.semSignal (Dev.tc n1 : Thread nD τ) barS (1#32).toInt) fun _ =>
             .op (.semSignal (Dev.tc n2 : Thread nD τ) barS (1#32).toInt) fun _ => .op (.semSignal (Dev.tc n3 : Thread nD τ) barS (1#32).toInt) fun _ =>
             .op (.semWait barS (4#32).toInt) k) Q) := by
  unfold entryToks
  iintro ⟨#HR, #Hlev, Hgive, ⟨Ht0, Ht1, Ht2, Ht3⟩, ⟨Hc, Hat⟩, HO⟩ Hk
  ihave Hgive := (barPay_give c) $$ Hgive
  icases Hgive with ⟨H0, H1, H2, H3⟩
  iapply (wp_entry_signal m ρ K c 0 _ hn0) $$ [HO Ht0 H0]
  · isplitr; · iexact HR
    isplitl [HO]; · iexact HO
    isplitl [Ht0] <;> iassumption
  iintro HO
  iapply (wp_entry_signal m ρ K c 1 _ hn1) $$ [HO Ht1 H1]
  · isplitr; · iexact HR
    isplitl [HO]; · iexact HO
    isplitl [Ht1] <;> iassumption
  iintro HO
  iapply (wp_entry_signal m ρ K c 2 _ hn2) $$ [HO Ht2 H2]
  · isplitr; · iexact HR
    isplitl [HO]; · iexact HO
    isplitl [Ht2] <;> iassumption
  iintro HO
  iapply (wp_entry_signal m ρ K c 3 _ hn3) $$ [HO Ht3 H3]
  · isplitr; · iexact HR
    isplitl [HO]; · iexact HO
    isplitl [Ht3] <;> iassumption
  iintro HO
  iapply (wp_entry_wait m ρ K c l hl) $$ [HO Hc Hat]
  · isplitr; · iexact HR
    isplitr; · iexact Hlev
    isplitl [HO]; · iexact HO
    isplitl [Hc] <;> iassumption
  iintro ⟨HO, Hp, Hz⟩
  iapply Hk
  isplitl [Hp]; · iapply (barPay_take c); iexact Hp
  isplitl [Hz] <;> iassumption

end Cert.KernelIdealProof

end
-- ==== Proof.KernelIdeal.Forms.lean ====
/-
# The printed partner numbers and row offsets in closed form

Each partner number and each offset the kernel computes with words is the cube's: checked at the sixteen devices.
-/
module

public import proofs.«01_k».proof.Proof.Cube
public import proofs.«01_k».proof.Proof.Gen.KernelIdeal.Skeleton
public import Idealize.ShloMosaic.Lib.Pipeline.Value

@[expose] public section

noncomputable section

namespace Cert.KernelIdealProof

open Cert.KernelIdeal Cert.KernelIdeal.Gen Cert.Cube
open Idealize.ShloMosaic

variable {F : FTy → Type} [FloatOps F]

/-! ## Partners -/

/-- The four of the entry handshake; -/
theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel
theorem dev4_eq (c : Dev nD) : (⟨k0_dev4 c, k0_dev4_lt c⟩ : Dev nD) = flip 3 c := by revert c; decide +kernel
/-- those of the halving steps; -/
theorem dev5_eq (c : Dev nD) : (⟨k0_dev5 c, k0_dev5_lt c⟩ : Dev nD) = pt 0 0 c := by revert c; decide +kernel
theorem dev6_eq (c : Dev nD) : (⟨k0_dev6 c, k0_dev6_lt c⟩ : Dev nD) = pt 1 0 c := by revert c; decide +kernel
theorem dev7_eq (c : Dev nD) : (⟨k0_dev7 c, k0_dev7_lt c⟩ : Dev nD) = pt 0 1 c := by revert c; decide +kernel
theorem dev8_eq (c : Dev nD) : (⟨k0_dev8 c, k0_dev8_lt c⟩ : Dev nD) = pt 1 1 c := by revert c; decide +kernel
theorem dev9_eq (c : Dev nD) : (⟨k0_dev9 c, k0_dev9_lt c⟩ : Dev nD) = pt 0 2 c := by revert c; decide +kernel
theorem dev10_eq (c : Dev nD) : (⟨k0_dev10 c, k0_dev10_lt c⟩ : Dev nD) = pt 1 2 c := by revert c; decide +kernel
theorem dev11_eq (c : Dev nD) : (⟨k0_dev11 c, k0_dev11_lt c⟩ : Dev nD) = pt 0 3 c := by revert c; decide +kernel
theorem dev12_eq (c : Dev nD) : (⟨k0_dev12 c, k0_dev12_lt c⟩ : Dev nD) = pt 1 3 c := by revert c; decide +kernel
/-- those of the doubling steps. -/
theorem dev13_eq (c : Dev nD) : (⟨k0_dev13 c, k0_dev13_lt c⟩ : Dev nD) = pt 0 3 c := by revert c; decide +kernel
theorem dev14_eq (c : Dev nD) : (⟨k0_dev14 c, k0_dev14_lt c⟩ : Dev nD) = pt 1 3 c := by revert c; decide +kernel
theorem dev15_eq (c : Dev nD) : (⟨k0_dev15 c, k0_dev15_lt c⟩ : Dev nD) = pt 0 2 c := by revert c; decide +kernel
theorem dev16_eq (c : Dev nD) : (⟨k0_dev16 c, k0_dev16_lt c⟩ : Dev nD) = pt 1 2 c := by revert c; decide +kernel
theorem dev17_eq (c : Dev nD) : (⟨k0_dev17 c, k0_dev17_lt c⟩ : Dev nD) = pt 0 1 c := by revert c; decide +kernel
theorem dev18_eq (c : Dev nD) : (⟨k0_dev18 c, k0_dev18_lt c⟩ : Dev nD) = pt 1 1 c := by revert c; decide +kernel
theorem dev19_eq (c : Dev nD) : (⟨k0_dev19 c, k0_dev19_lt c⟩ : Dev nD) = pt 0 0 c := by revert c; decide +kernel
theorem dev20_eq (c : Dev nD) : (⟨k0_dev20 c, k0_dev20_lt c⟩ : Dev nD) = pt 1 0 c := by revert c; decide +kernel

/-! ## Offsets -/

/-- The rows given up and the rows kept at each halving step; -/
theorem off1_eq (c : Dev nD) : k0_off1 c = ![kb 0 1 (pt 0 0 c), 0] := by revert c; decide +kernel
theorem off2_eq (c : Dev nD) : k0_off2 c = ![kb 1 1 (pt 1 0 c), 0] := by revert c; decide +kernel
theorem off3_eq (c : Dev nD) : k0_off3 c = ![kb 0 1 c, 0] := by revert c; decide +kernel
theorem off4_eq (c : Dev nD) : k0_off4 c = ![kb 1 1 c, 0] := by revert c; decide +kernel
theorem off5_eq (c : Dev nD) : k0_off5 c = ![kb 0 2 (pt 0 1 c), 0] := by revert c; decide +kernel
theorem off6_eq (c : Dev nD) : k0_off6 c = ![kb 1 2 (pt 1 1 c), 0] := by revert c; decide +kernel
theorem off7_eq (c : Dev nD) : k0_off7 c = ![kb 0 2 c, 0] := by revert c; decide +kernel
theorem off8_eq (c : Dev nD) : k0_off8 c = ![kb 1 2 c, 0] := by revert c; decide +kernel
theorem off9_eq (c : Dev nD) : k0_off9 c = ![kb 0 3 (pt 0 2 c), 0] := by revert c; decide +kernel
theorem off10_eq (c : Dev nD) : k0_off10 c = ![kb 1 3 (pt 1 2 c), 0] := by revert c; decide +kernel
theorem off11_eq (c : Dev nD) : k0_off11 c = ![kb 0 3 c, 0] := by revert c; decide +kernel
theorem off12_eq (c : Dev nD) : k0_off12 c = ![kb 1 3 c, 0] := by revert c; decide +kernel
theorem off13_eq (c : Dev nD) : k0_off13 c = ![kb 0 4 (pt 0 3 c), 0] := by revert c; decide +kernel
theorem off14_eq (c : Dev nD) : k0_off14 c = ![kb 1 4 (pt 1 3 c), 0] := by revert c; decide +kernel
theorem off15_eq (c : Dev nD) : k0_off15 c = ![kb 0 4 c, 0] := by revert c; decide +kernel
theorem off16_eq (c : Dev nD) : k0_off16 c = ![kb 1 4 c, 0] := by revert c; decide +kernel
/-- the finished rows sent at each doubling step. -/
theorem off17_eq (c : Dev nD) : k0_off17 c = ![kb 0 4 c, 0] := by revert c; decide +kernel
theorem off18_eq (c : Dev nD) : k0_off18 c = ![kb 1 4 c, 0] := by revert c; decide +kernel
theorem off19_eq (c : Dev nD) : k0_off19 c = ![kb 0 3 c, 0] := by revert c; decide +kernel
theorem off20_eq (c : Dev nD) : k0_off20 c = ![kb 1 3 c, 0] := by revert c; decide +kernel
theorem off21_eq (c : Dev nD) : k0_off21 c = ![kb 0 2 c, 0] := by revert c; decide +kernel
theorem off22_eq (c : Dev nD) : k0_off22 c = ![kb 1 2 c, 0] := by revert c; decide +kernel
theorem off23_eq (c : Dev nD) : k0_off23 c = ![kb 0 1 c, 0] := by revert c; decide +kernel
theorem off24_eq (c : Dev nD) : k0_off24 c = ![kb 1 1 c, 0] := by revert c; decide +kernel

/-! ## The additions -/

theorem pay1_eq (a b : Vec F S256x512 .f32) (i : S256x512.Idx) : k0_pay1 a b i = FloatOps.addf (a i) (b i) := by
  unfold k0_pay1; rw [shapeCast_self]; rfl
theorem pay2_eq (a b : Vec F S256x512 .f32) (i : S256x512.Idx) : k0_pay2 a b i = FloatOps.addf (a i) (b i) := by
  unfold k0_pay2; rw [shapeCast_self]; rfl
theorem pay3_eq (a b : Vec F S128x512 .f32) (i : S128x512.Idx) : k0_pay3 a b i = FloatOps.addf (a i) (b i) := by
  unfold k0_pay3; rw [shapeCast_self]; rfl
theorem pay4_eq (a b : Vec F S128x512 .f32) (i : S128x512.Idx) : k0_pay4 a b i = FloatOps.addf (a i) (b i) := by
  unfold k0_pay4; rw [shapeCast_self]; rfl
theorem pay5_eq (a b : Vec F S64x512 .f32) (i : S64x512.Idx) : k0_pay5 a b i = FloatOps.addf (a i) (b i) := by
  unfold k0_pay5; rw [shapeCast_self]; rfl
theorem pay6_eq (a b : Vec F S64x512 .f32) (i : S64x512.Idx) : k0_pay6 a b i = FloatOps.addf (a i) (b i) := by
  unfold k0_pay6; rw [shapeCast_self]; rfl
theorem pay7_eq (a b : Vec F S32x512 .f32) (i : S32x512.Idx) : k0_pay7 a b i = FloatOps.addf (a i) (b i) := by
  unfold k0_pay7; rw [shapeCast_self]; rfl
theorem pay8_eq (a b : Vec F S32x512 .f32) (i : S32x512.Idx) : k0_pay8 a b i = FloatOps.addf (a i) (b i) := by
  unfold k0_pay8; rw [shapeCast_self]; rfl

end Cert.KernelIdealProof

end
-- ==== Proof.KernelIdeal.Body.lean ====
/-
# The kernel's body

The body run from what the launch gives a device to what it leaves: the handshake, four halving steps, four doubling steps.
-/
module

public import proofs.«01_k».proof.Proof.KernelIdeal.Entry
public import proofs.«01_k».proof.Proof.KernelIdeal.Forms

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts and ends with -/

/-- A device's share of the launch's ghost state and the credits of what it will receive. -/
def start (c : Dev nD) : sProp 𝕄 :=
  iprop((∃ K, records m ρ K ∗ (cred (tallyAt (kcell c none) () 4) ∗ atPos ER (kcell c none) 0 ∅ 0) ∗ entryToks c ∗ bigSep Finset.univ (rights c)) ∗ levAts L lv)
/-- Device `c`'s state before the body: its share of the protocol and its landing buffers at any contents. -/
def Φ₀ (c : Dev nD) : sProp 𝕄 := iprop(start m ρ c ∗ landings c)
/-- After the body every cell of the exchange is closed, at zero. -/
def Φ₁ (c : Dev nD) : sProp 𝕄 := iprop(landings c ∗ semVal (kcell c none) 0 ∗ bigSep Finset.univ (spent c))

/-- The result buffer at the end. -/
def outAt : S1024x512.Idx → Elt F .f32 := full (OUT m ρ)

/-- The proof data of the one region: the arrays at launch, the staging buffers after the body, and what holds before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- Owning a whole buffer through its reference is owning all its elements. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- All transfers, pair by pair in the order of the steps. -/
def inOrder (Ψ : Slot → sProp 𝕄) : sProp 𝕄 :=
  iprop((Ψ (0, false, 0) ∗ Ψ (1, false, 0))
      ∗ (Ψ (0, false, 1) ∗ Ψ (1, false, 1))
      ∗ (Ψ (0, false, 2) ∗ Ψ (1, false, 2))
      ∗ (Ψ (0, false, 3) ∗ Ψ (1, false, 3))
      ∗ (Ψ (0, true, 3) ∗ Ψ (1, true, 3))
      ∗ (Ψ (0, true, 2) ∗ Ψ (1, true, 2))
      ∗ (Ψ (0, true, 1) ∗ Ψ (1, true, 1))
      ∗ (Ψ (0, true, 0) ∗ Ψ (1, true, 0)))

omit [FloatOps F] in
/-- A family over the transfers is the same family written out in program order. -/
theorem slots_eq (Ψ : Slot → sProp 𝕄) : bigSep Finset.univ Ψ ⊣⊢ inOrder Ψ := by
  have h : bigSep Finset.univ Ψ = iprop(Ψ (0, false, 0) ∗ Ψ (1, false, 0) ∗ Ψ (0, false, 1) ∗ Ψ (1, false, 1) ∗ Ψ (0, false, 2) ∗ Ψ (1, false, 2) ∗ Ψ (0, false, 3) ∗ Ψ (1, false, 3) ∗ Ψ (0, true, 3) ∗ Ψ (1, true, 3) ∗ Ψ (0, true, 2) ∗ Ψ (1, true, 2) ∗ Ψ (0, true, 1) ∗ Ψ (1, true, 1) ∗ Ψ (0, true, 0) ∗ Ψ (1, true, 0)) :=
    bigSep_univ_eq_bigSepL [(0, false, 0), (1, false, 0), (0, false, 1), (1, false, 1), (0, false, 2), (1, false, 2), (0, false, 3), (1, false, 3), (0, true, 3), (1, true, 3), (0, true, 2), (1, true, 2), (0, true, 1), (1, true, 1), (0, true, 0), (1, true, 0)] (by decide) (by decide) Ψ
  rw [h]
  unfold inOrder
  constructor
  · iintro ⟨A0, B0, A1, B1, A2, B2, A3, B3, A4, B4, A5, B5, A6, B6, A7, B7⟩
    isplitl [A0 B0]; · isplitl [A0] <;> iassumption
    isplitl [A1 B1]; · isplitl [A1] <;> iassumption
    isplitl [A2 B2]; · isplitl [A2] <;> iassumption
    isplitl [A3 B3]; · isplitl [A3] <;> iassumption
    isplitl [A4 B4]; · isplitl [A4] <;> iassumption
    isplitl [A5 B5]; · isplitl [A5] <;> iassumption
    isplitl [A6 B6]; · isplitl [A6] <;> iassumption
    isplitl [A7] <;> iassumption
  · iintro ⟨⟨A0, B0⟩, ⟨A1, B1⟩, ⟨A2, B2⟩, ⟨A3, B3⟩, ⟨A4, B4⟩, ⟨A5, B5⟩, ⟨A6, B6⟩, ⟨A7, B7⟩⟩
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    isplitl [B5]; · iexact B5
    isplitl [A6]; · iexact A6
    isplitl [B6]; · iexact B6
    isplitl [A7] <;> iassumption

/-- A whole staging buffer of device `c` holding `Y`. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

/-- What the body starts with, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it ends with. -/
def bodyPost (c : Dev nD) : sProp 𝕄 :=
  iprop(Φ₁ c ∗ (dats m ρ 0 c).owesAt () t0_0.succ ∗ stg c cc0_stg0_0 (xstg m ρ c) ∗ stg c cc0_stg1_0 (outAt m ρ))

set_option maxHeartbeats 4000000 in
set_option maxRecDepth 8000 in
/-- The body, step by step. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8 cc0_scratch9) Kt := by
  simp only [cc0_body_eq_skeleton, cc0_body_skel, k0_part16_eq_skeleton, k0_part16_skel, k0_part1_eq_skeleton, k0_part1_skel,
    k0_part2_eq_skeleton, k0_part2_skel, k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton, k0_part13_skel,
    k0_part14_eq_skeleton, k0_part14_skel, k0_part15_eq_skeleton, k0_part15_skel,
    semSignalWord, semWaitWord, Prog.lift, Prog.bind_op, Prog.bind_ret, Prog.pure_eq_ret, wp_deviceId]
  unfold bodyPre Φ₀ start
  iintro ⟨⟨⟨⟨⟨%K, #HR, Hbar, Htok, Hrights⟩, #Hlev⟩, Hland⟩, Ho, ⟨%d0, %g0, %hg0, Hx⟩, ⟨%d1, %g1, %hg1, Hout⟩⟩, Hk⟩
  have hx : g0 = full fun r t => X m ρ r t c := by
    rw [hg0, full_X]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave HO := (show owes (c : Thread nD τ) (O₀ c) W ⊢ (ow c payments : sProp 𝕄) by unfold ow O₀; iintro H; iexists W; iexact H) $$ HO
  ihave Hout := (oAny_quarters c g1) $$ Hout
  icases Hout with ⟨⟨Ho0, Hg0⟩, ⟨Ho1, Hg1⟩⟩
  ihave Hrights := (slots_eq (F := F) (rights c)).1 $$ Hrights
  unfold inOrder
  icases Hrights with ⟨HrA0, HrA1, HrA2, HrA3, HrB3, HrB2, HrB1, HrB0⟩
  -- the handshake
  iapply (wp_entry m ρ K c (payments.drop 4) (by decide) (dev1_eq c) (dev2_eq c) (dev3_eq c) (dev4_eq c)) $$ [Hland Hg0 Hg1 Htok Hbar HO]
  · isplitr; · iexact HR
    isplitr; · iexact Hlev
    isplitl [Hland Hg0 Hg1]
    · isplitl [Hland]; · iexact Hland
      isplitl [Hg0] <;> iassumption
    isplitl [Htok]; · iexact Htok
    isplitl [Hbar]; · iexact Hbar
    unfold payments; iexact HO
  iintro ⟨⟨Hlent, HroomA, HroomB⟩, Hz, HO⟩
  unfold lent
  icases Hlent with ⟨⟨C00, C01, C02, C03⟩, ⟨C10, C11, C12, C13⟩⟩
  -- halving step 0
  iapply (wp_halving_first m ρ K c 0 rfl (payments.drop 6) (by decide) (dev5_eq c) (dev6_eq c) (off1_eq c) (off2_eq c) (off3_eq c) (off4_eq c)
      rfl rfl (by rfl) (by rfl) (by rfl) (by rfl) pay1_eq pay2_eq) $$ [Hx Ho0 Ho1 C00 C10 HrA0 HO]
  · isplitr; · iexact HR
    isplitr; · iexact Hlev
    isplitl [Hx]; · iexact Hx
    isplitl [Ho0 Ho1]
    · isplitl [Ho0]; · iexact Ho0
      iexact Ho1
    isplitl [C00 C10]
    · isplitl [C00]; · iexact C00
      iexact C10
    isplitl [HrA0]; · iexact HrA0
    iexact HO
  iintro ⟨Hx, HP, HC0, HzA0, HO⟩
  -- halving step 1
  iapply (wp_halving m ρ K c 1 (by decide) (payments.drop 8) (by decide) (dev7_eq c) (dev8_eq c) (off5_eq c) (off6_eq c) (off7_eq c) (off8_eq c)
      rfl rfl (by rfl) (by rfl) (by rfl) (by rfl) pay3_eq pay4_eq) $$ [HP C01 C11 HrA1 HO]
  · isplitr; · iexact HR
    isplitr; · iexact Hlev
    isplitl [HP]; · iexact HP
    isplitl [C01 C11]
    · isplitl [C01]; · iexact C01
      iexact C11
    isplitl [HrA1]; · iexact HrA1
    iexact HO
  iintro ⟨HP, HC1, HM1, HzA1, HO⟩
  -- halving step 2
  iapply (wp_halving m ρ K c 2 (by decide) (payments.drop 10) (by decide) (dev9_eq c) (dev10_eq c) (off9_eq c) (off10_eq c) (off11_eq c) (off12_eq c)
      rfl rfl (by rfl) (by rfl) (by rfl) (by rfl) pay5_eq pay6_eq) $$ [HP C02 C12 HrA2 HO]
  · isplitr; · iexact HR
    isplitr; · iexact Hlev
    isplitl [HP]; · iexact HP
    isplitl [C02 C12]
    · isplitl [C02]; · iexact C02
      iexact C12
    isplitl [HrA2]; · iexact HrA2
    iexact HO
  iintro ⟨HP, HC2, HM2, HzA2, HO⟩
  -- halving step 3
  iapply (wp_halving m ρ K c 3 (by decide) (payments.drop 12) (by decide) (dev11_eq c) (dev12_eq c) (off13_eq c) (off14_eq c) (off15_eq c) (off16_eq c)
      rfl rfl (by rfl) (by rfl) (by rfl) (by rfl) pay7_eq pay8_eq) $$ [HP C03 C13 HrA3 HO]
  · isplitr; · iexact HR
    isplitr; · iexact Hlev
    isplitl [HP]; · iexact HP
    isplitl [C03 C13]
    · isplitl [C03]; · iexact C03
      iexact C13
    isplitl [HrA3]; · iexact HrA3
    iexact HO
  iintro ⟨HP, HC3, HM3, HzA3, HO⟩
  icases HP with ⟨HP0, HP1⟩
  ihave HP0 := (show partialSum m ρ c 0 ((3 : Fin 4) + 1) ⊢ (finished m ρ c 0 ((3 : Fin 4) + 1) : sProp 𝕄) from Entails.of_eq (finish m ρ c 0)) $$ HP0
  ihave HP1 := (show partialSum m ρ c 1 ((3 : Fin 4) + 1) ⊢ (finished m ρ c 1 ((3 : Fin 4) + 1) : sProp 𝕄) from Entails.of_eq (finish m ρ c 1)) $$ HP1
  -- doubling step 3
  iapply (wp_doubling m ρ K c 3 (payments.drop 14) (by decide) (dev13_eq c) (dev14_eq c) (off17_eq c) (off18_eq c)
      (by rfl) (by rfl) (by rfl) (by rfl)) $$ [HP0 HP1 HM3 HrB3 HO]
  · isplitr; · iexact HR
    isplitr; · iexact Hlev
    isplitl [HP0 HP1]
    · isplitl [HP0] <;> iassumption
    isplitl [HM3]; · iexact HM3
    isplitl [HrB3]; · iexact HrB3
    iexact HO
  iintro ⟨HD, HzB3, HO⟩
  -- doubling step 2
  iapply (wp_doubling m ρ K c 2 (payments.drop 16) (by decide) (dev15_eq c) (dev16_eq c) (off19_eq c) (off20_eq c)
      (by rfl) (by rfl) (by rfl) (by rfl)) $$ [HD HM2 HrB2 HO]
  · isplitr; · iexact HR
    isplitr; · iexact Hlev
    isplitl [HD]; · iexact HD
    isplitl [HM2]; · iexact HM2
    isplitl [HrB2]; · iexact HrB2
    iexact HO
  iintro ⟨HD, HzB2, HO⟩
  -- doubling step 1
  iapply (wp_doubling m ρ K c 1 (payments.drop 18) (by decide) (dev17_eq c) (dev18_eq c) (off21_eq c) (off22_eq c)
      (by rfl) (by rfl) (by rfl) (by rfl)) $$ [HD HM1 HrB1 HO]
  · isplitr; · iexact HR
    isplitr; · iexact Hlev
    isplitl [HD]; · iexact HD
    isplitl [HM1]; · iexact HM1
    isplitl [HrB1]; · iexact HrB1
    iexact HO
  iintro ⟨HD, HzB1, HO⟩
  -- doubling step 0
  iapply (wp_doubling m ρ K c 0 (payments.drop 20) (by decide) (dev19_eq c) (dev20_eq c) (off23_eq c) (off24_eq c)
      (by rfl) (by rfl) (by rfl) (by rfl)) $$ [HD HroomA HroomB HrB0 HO]
  · isplitr; · iexact HR
    isplitr; · iexact Hlev
    isplitl [HD]; · iexact HD
    isplitl [HroomA HroomB]
    · isplitl [HroomA]; · iexact HroomA
      iexact HroomB
    isplitl [HrB0]; · iexact HrB0
    iexact HO
  iintro ⟨HD, HzB0, HO⟩
  rw [wp_ret]; imodintro
  iapply Hk
  unfold bodyPost Φ₁ Dat.owesAt Pipeline.owesWithin
  rw [show (dats m ρ 0 c).owed t0_0.succ = 0 from rfl]
  isplitl [HC0 HC1 HC2 HC3 Hz HzA0 HzA1 HzA2 HzA3 HzB0 HzB1 HzB2 HzB3]
  · isplitl [HC0 HC1 HC2 HC3]
    · unfold landings
      icases HC0 with ⟨C00, C10⟩
      icases HC1 with ⟨C01, C11⟩
      icases HC2 with ⟨C02, C12⟩
      icases HC3 with ⟨C03, C13⟩
      isplitl [C00 C01 C02 C03]
      · isplitl [C00]; · iexact C00
        isplitl [C01]; · iexact C01
        isplitl [C02] <;> iassumption
      · isplitl [C10]; · iexact C10
        isplitl [C11]; · iexact C11
        isplitl [C12] <;> iassumption
    isplitl [Hz]; · iexact Hz
    iapply (slots_eq (F := F) (spent c)).2
    unfold inOrder
    isplitl [HzA0]; · iexact HzA0
    isplitl [HzA1]; · iexact HzA1
    isplitl [HzA2]; · iexact HzA2
    isplitl [HzA3]; · iexact HzA3
    isplitl [HzB3]; · iexact HzB3
    isplitl [HzB2]; · iexact HzB2
    isplitl [HzB1] <;> iassumption
  isplitl [HO]
  · ihave HO := (Entails.of_eq (ow.eq_def c (payments.drop 20))) $$ HO
    icases HO with ⟨%W', HO⟩
    iexists W'
    isplitr; · ipureintro; exact fun _ _ => Or.inl trivial
    iexact HO
  isplitl [Hx]
  · iexists _; isplitr; · ipureintro; exact full_X m ρ c
    iexact Hx
  iexists _; isplitr; · (ipureintro; rfl)
  iapply (o_halves c (OUT m ρ)).2
  icases HD with ⟨HD0, HD1⟩
  isplitl [HD0]
  · iapply (Entails.of_eq (finished.eq_def m ρ c 0 0)); iexact HD0
  · iapply (Entails.of_eq (finished.eq_def m ρ c 1 0)); iexact HD1

/-- The body at the launch's one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  iintro H
  iapply (sound_body m ρ c fun _ => bodyPost m ρ c)
  isplitl [H]; · iexact H
  iintro H; iexact H

end Cert.KernelIdealProof

end
-- ==== Proof.KernelIdeal.Launch.lean ====
/-
# The launch

From the counters at zero to each device's share of the protocol, and the whole run: every execution ends, with the result
array of every device as computed, the input unchanged and all counters zero.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen Cert.Cube

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: of each transfer the sender's and the receiver's. -/
abbrev osem : Bool × Slot → SemLoc sig := fun p => csem (some p)

/-- These are exactly the semaphores scoped to the kernel, each once. -/
theorem ownSemFacts : Pipeline.OwnSemFacts cfg0.spec osem :=
  ⟨by decide +kernel, fun p q h => Option.some.inj (csem_injective h), by decide +kernel⟩

/-- Every window holds its array whole. -/
theorem share_eq (c : Dev nD) (w : Fin cfg0.W) : (dats m ρ 0 c).share w = fullShare := by unfold Dat.share; split <;> rfl

/-! ## Splitting the families over cells -/

omit [FloatOps F] in
/-- A family over a device's cells: the barrier's, the senders', the receivers'. -/
theorem bigSep_cells (Φ : CellIx → sProp 𝕄) :
    bigSep Finset.univ Φ = iprop(Φ none ∗ (bigSep Finset.univ fun s : Slot => Φ (some (false, s))) ∗ bigSep Finset.univ fun s : Slot => Φ (some (true, s))) := by
  have h1 : (Finset.univ : Finset CellIx).erase none = Finset.univ.map (Function.Embedding.some : (Bool × Slot) ↪ CellIx) := by
    ext i; rcases i with _ | p <;> simp
  rw [bigSep_univ_at Φ none, h1, bigSep_map, bigSep_univ_prod]
  exact congrArg (fun P => iprop(Φ none ∗ P)) (bigSep_univ_eq_bigSepL [false, true] (by decide) (by decide) _)

omit [FloatOps F] in
/-- A family over the two ends of all transfers. -/
theorem bigSep_ends (Φ : Bool × Slot → sProp 𝕄) :
    bigSep Finset.univ Φ = iprop((bigSep Finset.univ fun s : Slot => Φ (false, s)) ∗ bigSep Finset.univ fun s : Slot => Φ (true, s)) := by
  rw [bigSep_univ_prod]; exact bigSep_univ_eq_bigSepL [false, true] (by decide) (by decide) _

omit [FloatOps F] in
/-- A family over the four dimensions. -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- Each member of a family goes to another device, in its own permutation. -/
def shuffle {I : Type} (e : I → Dev nD ≃ Dev nD) : Dev nD × I ≃ Dev nD × I where
  toFun p := (e p.2 p.1, p.2)
  invFun p := ((e p.2).symm p.1, p.2)
  left_inv p := by simp
  right_inv p := by simp

omit [FloatOps F] in
/-- Dealing each member of a family by its own permutation of the devices changes nothing over all devices. -/
theorem bigSep_shuffle {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [← bigSep_univ_prod (fun p : Dev nD × I => Φ p.1 p.2), bigSep_univ_equiv (shuffle e), bigSep_univ_prod]; rfl

/-! ## The launch element -/

/-- All cells of the exchange. -/
def ringCells : Finset (GSem nD τ sig) := Finset.univ.map ⟨fun ci : Dev nD × CellIx => kcell ci.1 ci.2, kcell_injective⟩

/-- A duty token: of a cell, in round 0, one of four; -/
abbrev tokOf (x : Dev nD × CellIx × Fin 4) : GSem nD τ sig × ℕ × Fin 4 := (kcell x.1 x.2.1, 0, x.2.2)
/-- each named once. -/
theorem tokOf_injective : Function.Injective tokOf := by
  rintro ⟨c, i, d⟩ ⟨c', i', d'⟩ h
  have h1 := kcell_injective (a₁ := (c, i)) (a₂ := (c', i')) (congrArg Prod.fst h)
  have h2 : d = d' := congrArg (fun x : GSem nD τ sig × ℕ × Fin 4 => x.2.2) h
  cases h1; subst h2; rfl
/-- All duty tokens. -/
def ringToks : Finset (GSem nD τ sig × ℕ × Fin 4) := Finset.univ.map ⟨tokOf, tokOf_injective⟩

/-- The ghost state at launch. -/
def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun x : CellIx × Fin 4 => dutyTok ER (kcell c x.1) 0 x.2

/-- What the launch element deals device `c`. -/
def G (c : Dev nD) : sProp 𝕄 :=
  iprop((bigSep Finset.univ fun i : CellIx => roundState ER (Rd m ρ) (kcell c i) 0)
    ∗ (bigSep Finset.univ fun i : CellIx => iprop(atPos ER (kcell c i) 0 ∅ 0 ∗ reached ER (kcell c i) 0)) ∗ toks c)

/-- The launch element deals every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CellIx => Φ (kcell c i) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

omit [FloatOps F] in
/-- The barrier semaphore is the launch's one unscoped semaphore. -/
theorem unscopedSems0_eq (c : Dev nD) : (unscopedSems0 c : sProp 𝕄) = semVal (kcell c none) 0 := by
  unfold unscopedSems0; rw [bigSep_eq_bigSepL_of_eq [SemLoc.reg barS] (by decide) (by decide)]; rfl

omit [FloatOps F] in
/-- The kernel's own semaphores at zero, by the ends of the transfers. -/
theorem ownSems0_eq (c : Dev nD) : (Pipeline.ownSems0 (Ix := Unit) (Name := ℕ) (U := UU) (Lvl := ℕ) (Val := Elt F) (τ := τ) osem c : sProp 𝕄)
    = iprop((bigSep Finset.univ fun s : Slot => semVal (kcell c (some (false, s))) 0) ∗ bigSep Finset.univ fun s : Slot => semVal (kcell c (some (true, s))) 0) := by
  unfold Pipeline.ownSems0; exact bigSep_ends (F := F) (fun p => semVal (kcell c (some p)) 0)

omit [FloatOps F] in
/-- So all of a device's cells start at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell c i) 0 : sProp 𝕄) := by
  rw [ownSems0_eq, unscopedSems0_eq, bigSep_cells]
  iintro ⟨⟨HS, HV⟩, HB⟩
  isplitl [HB]; · iexact HB
  isplitl [HS] <;> iassumption

/-- The invariants of one device's cells are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CellIx => iprop(∃ κ : ℕ, cellInv ER (Rd m ρ) κ (kcell c i)))
          ∗ (bigSep Finset.univ fun i : CellIx => iprop(atPos ER (kcell c i) 0 ∅ 0 ∗ reached ER (kcell c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell c i) 0) ∗ bigSep Finset.univ fun i : CellIx => roundState ER (Rd m ρ) (kcell c i) 0)
      ⊢ (|={Set.univ}=> bigSep Finset.univ fun i : CellIx => iprop(∃ κ : ℕ, cellInv ER (Rd m ρ) κ (kcell c i)) : sProp 𝕄) from by
        rw [← bigSep_sep']
        exact (bigSep_mono fun i _ => (Rounds.body_intro ER (Rd m ρ) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights around -/

/-- What stays with device `c`: its positions, and the tokens of the payments it makes. -/
def positions (c : Dev nD) : sProp 𝕄 := bigSep Finset.univ fun i : CellIx => atPos ER (kcell c i) 0 ∅ 0
/-- The tokens of the payments the device makes. -/
def payToks (c : Dev nD) : sProp 𝕄 := iprop(entryToks c ∗ bigSep Finset.univ (tx c))
/-- What the global step makes of a device's deal. -/
def G' (c : Dev nD) : sProp 𝕄 := iprop(∃ K, records m ρ K ∗ positions c ∗ payToks c)

omit [FloatOps F] in
/-- The tokens of a device's cells: four of the barrier, one of each transfer's cell. -/
theorem toks_split (c : Dev nD) :
    (toks c : sProp 𝕄) ⊢ iprop((bigSep Finset.univ fun d : Fin 4 => dutyTok ER (kcell c none) 0 d)
      ∗ (bigSep Finset.univ fun s : Slot => dutyTok ER (kcell c (some (false, s))) 0 0) ∗ bigSep Finset.univ fun s : Slot => dutyTok ER (kcell c (some (true, s))) 0 0) := by
  have h (r : Bool) : (bigSep Finset.univ fun s : Slot => bigSep Finset.univ fun d : Fin 4 => (dutyTok ER (kcell c (some (r, s))) 0 d : sProp 𝕄))
      ⊢ bigSep Finset.univ fun s : Slot => dutyTok ER (kcell c (some (r, s))) 0 0 := bigSep_mono fun s _ => bigSep_elim (Finset.mem_univ (0 : Fin 4))
  unfold toks
  rw [bigSep_univ_prod, bigSep_cells]
  exact BI.sep_mono (BI.Entails.refl _) (BI.sep_mono (h false) (h true))

omit [FloatOps F] in
/-- Every token to the device that pays with it: a barrier's to the partner along the duty's dimension, a receiver's to
    the partner of that step. -/
theorem toks_around : (bigSep Finset.univ fun c : Dev nD => (toks c : sProp 𝕄)) ⊢ bigSep Finset.univ fun c : Dev nD => payToks c := by
  refine (bigSep_mono fun c _ => toks_split (F := F) c).trans ?_
  unfold payToks tx entryToks
  simp only [bigSep_sep']
  rw [bigSep_shuffle (F := F) (fun d : Fin 4 => flipE d) (fun c d => dutyTok ER (kcell c none) 0 d),
    bigSep_shuffle (F := F) (fun s : Slot => flipE (ord s.1 s.2.2)) (fun c s => dutyTok ER (kcell c (some (true, s))) 0 0)]
  simp only [bigSep_fin4, bigSep_sep']
  exact BI.Entails.refl _

omit [FloatOps F] in
/-- What stays true may be used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From each device its own cells, to each device the records of all cells and the tokens it pays with. -/
theorem regroup :
    (bigSep Finset.univ fun c : Dev nD => iprop((bigSep Finset.univ fun i : CellIx => iprop(∃ κ : ℕ, cellInv ER (Rd m ρ) κ (kcell c i)))
          ∗ (bigSep Finset.univ fun i : CellIx => iprop(atPos ER (kcell c i) 0 ∅ 0 ∗ reached ER (kcell c i) 0)) ∗ toks c) : sProp 𝕄)
      ⊢ bigSep Finset.univ (G' m ρ) := by
  rw [bigSep_sep', bigSep_sep', ← bigSep_univ_prod (fun ci : Dev nD × CellIx => iprop(∃ κ : ℕ, cellInv ER (Rd m ρ) κ (kcell ci.1 ci.2))),
    bigSep_congr (s := Finset.univ) (fun (c : Dev nD) _ => bigSep_sep' Finset.univ (fun i : CellIx => (atPos ER (kcell c i) 0 ∅ 0 : sProp 𝕄)) (fun i => reached ER (kcell c i) 0)),
    bigSep_sep', ← bigSep_univ_prod (fun ci : Dev nD × CellIx => (reached ER (kcell ci.1 ci.2) 0 : sProp 𝕄))]
  iintro ⟨HI, ⟨Hat, #HR⟩, Htok⟩
  ihave HK := (BI.bigSep_exists_pi Finset.univ (fun (ci : Dev nD × CellIx) (κ : ℕ) => (cellInv ER (Rd m ρ) κ (kcell ci.1 ci.2) : sProp 𝕄))) $$ HI
  icases HK with ⟨%K, #HI⟩
  ihave Htk := (toks_around (F := F)) $$ Htok
  iapply (bigSep_with_persistent (R := records m ρ K) (Φ := fun c => iprop(positions c ∗ payToks c)) fun c _ =>
    show iprop(records m ρ K ∗ positions c ∗ payToks c) ⊢ G' m ρ c by unfold G'; iintro H; iexists K; iexact H)
  isplitr
  · unfold records; isplitl; · iexact HI
    iexact HR
  · rw [bigSep_sep']
    unfold positions
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Which of the receiving device's cells a payment goes to, -/
def tcell : Pay → CellIx
  | .inl _ => none
  | .inr s => some (true, s)
/-- and which device it goes to. -/
def tdim : Pay → Fin 4
  | .inl d => d
  | .inr s => ord s.1 s.2.2

/-- The cell a payment goes to, -/
theorem target_eq (d : Dev nD) (p : Pay) : target d p = kcell (flip (tdim p) d) (tcell p) := by rcases p with e | s <;> rfl
/-- and what it pays. -/
theorem worth_eq (p : Pay) : worth p = amt (tcell p) := by rcases p with e | s <;> rfl

/-- Of all devices' payments `p`, one goes to a given device's cell, if it is the right one of its cells. -/
theorem sum_owed_one (c : Dev nD) (i : CellIx) (p : Pay) :
    (∑ d : Dev nD, if kcell c i = target d p then worth p else 0) = if i = tcell p then amt i else 0 := by
  by_cases hi : i = tcell p
  · rw [if_pos hi, Finset.sum_eq_single (flip (tdim p) c)]
    · rw [if_pos (by rw [target_eq, Cube.flip_flip, hi]), worth_eq, hi]
    · intro d _ hd
      rw [if_neg fun h => hd ?_]
      have := kcell_injective (a₁ := (c, i)) (a₂ := (flip (tdim p) d, tcell p)) (h.trans (target_eq d p))
      rw [show c = flip (tdim p) d from congrArg Prod.fst this, Cube.flip_flip]
    · intro h; exact absurd (Finset.mem_univ _) h
  · rw [if_neg hi]
    refine Finset.sum_eq_zero fun d _ => if_neg fun h => hi ?_
    exact congrArg Prod.snd (kcell_injective (a₁ := (c, i)) (a₂ := (flip (tdim p) d, tcell p)) (h.trans (target_eq d p)))

/-- What all devices' payments of a list owe a cell: as often as the list holds a payment to it. -/
theorem sum_owing (c : Dev nD) (i : CellIx) (l : List Pay) :
    (∑ d : Dev nD, owing d l (kcell c i) ()) = (l.countP fun p => decide (i = tcell p)) * amt i := by
  induction l with
  | nil => rw [List.countP_nil, Nat.zero_mul]; exact Finset.sum_eq_zero fun d _ => rfl
  | cons p l ih =>
    have h (d : Dev nD) : owing d (p :: l) (kcell c i) () = owing d l (kcell c i) () + if kcell c i = target d p then worth p else 0 := by
      rw [owing, Pi.add_apply, Finsupp.add_apply, tallyAt_apply]
      by_cases e : kcell c i = target d p
      · rw [if_pos ⟨e, rfl⟩, if_pos e]
      · rw [if_neg (fun h => e h.1), if_neg e]
    rw [Finset.sum_congr rfl fun d _ => h d, Finset.sum_add_distrib, ih, sum_owed_one, List.countP_cons]
    by_cases hi : i = tcell p
    · rw [if_pos hi, if_pos (decide_eq_true hi), Nat.add_mul, Nat.one_mul]
    · rw [if_neg hi, if_neg (by simpa using hi), Nat.add_zero, Nat.add_zero]

/-- The launch credit of a cell. -/
theorem launch_at (c : Dev nD) (i : CellIx) (n : ℕ) (hn : (payments.countP fun p => decide (i = tcell p)) * amt i = n) :
    tallyOn (kcell c i) (launchCredit (Pipeline.owing O₀) 0 (kcell c i)) = (tallyAt (kcell c i) () n : CellTallies nD τ sig Unit) := by
  unfold tallyAt; refine congrArg _ (Finsupp.ext fun u => ?_); cases u
  rw [Pipeline.launchCredit_owing, Finsupp.single_eq_same, ← hn]; exact sum_owing c i payments

/-- Four payments go to the barrier, -/
theorem count_bar : (payments.countP fun p => decide ((none : CellIx) = tcell p)) = 4 := by decide
/-- and one to each receiver's cell. -/
theorem count_recv : ∀ s : Slot, (payments.countP fun p => decide ((some (true, s) : CellIx) = tcell p)) = 1 := by decide +kernel

omit [FloatOps F] in
/-- The launch credits of a device: four units of its barrier and one transfer's of each receiver's cell. -/
theorem creds (c : Dev nD) :
    (Pipeline.launchCred O₀ c : sProp 𝕄) ⊢ iprop(cred (tallyAt (kcell c none) () 4) ∗ bigSep Finset.univ fun s : Slot => cred (tallyAt (kcell c (some (true, s))) () (N s.2.2))) := by
  have h : (Pipeline.launchCred O₀ c : sProp 𝕄) ⊢ bigSep Finset.univ fun i : CellIx => cred (tallyOn (kcell c i) (launchCredit (Pipeline.owing O₀) 0 (kcell c i))) := by
    unfold Pipeline.launchCred
    refine (bigSep_subset (Finset.subset_univ (Finset.univ.map ⟨csem, csem_injective⟩))).trans ?_
    rw [bigSep_map]; exact BI.Entails.refl _
  refine h.trans ?_
  rw [bigSep_cells, launch_at c none 4 (by rw [count_bar]; rfl),
    bigSep_congr (s := Finset.univ) (fun (s : Slot) _ => congrArg (fun t => (cred t : sProp 𝕄)) (launch_at c (some (true, s)) (N s.2.2) (by rw [count_recv, Nat.one_mul]; rfl)))]
  iintro ⟨H1, -, H2⟩
  isplitl [H1] <;> iassumption

/-! ## The side conditions of the launch -/

/-- A device's share of the protocol, from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' positions payToks
  rw [bigSep_cells]
  iintro ⟨-, Hlev, Hcr, -, ⟨%K, HR, ⟨HaB, HaF, HaT⟩, HtE, Htx⟩⟩
  ihave Hc := (creds (F := F) c) $$ Hcr
  icases Hc with ⟨HcB, HcR⟩
  imodintro
  isplitl
  · unfold start
    isplitr [Hlev]
    · iexists K
      isplitl [HR]; · iexact HR
      isplitl [HcB HaB]; · isplitl [HcB] <;> iassumption
      isplitl [HtE]; · iexact HtE
      unfold rights rx
      simp only [bigSep_sep']
      isplitl [Htx]; · iexact Htx
      isplitl [HaF]; · iexact HaF
      isplitl [HaT] <;> iassumption
    iexact Hlev
  · iempintro

omit [FloatOps F] in
/-- A whole buffer at any contents. -/
theorem whole_any (c : Dev nD) (b : Ref sig .tc) :
    (iprop(∃ f : Buf (Elt F) ((c : Thread nD τ).loc b), ((c : Thread nD τ).loc b) ↦{fullShare} f) : sProp 𝕄)
      = iprop(∃ f : Buf (Elt F) ((Memref.whole b).view.loc (c : Thread nD τ)), (Memref.whole b).view.loc (c : Thread nD τ) ↦[(Memref.whole b).view.set]{fullShare} f) := by
  simp only [Memref.view_whole, View.set_whole]

omit [FloatOps F] in
/-- The scratch buffers are the landing buffers. -/
theorem landings_eq (c : Dev nD) : (Pipeline.scopedRest cfg0.spec c : sProp 𝕄) ⊣⊢ landings c := by
  rw [show (Pipeline.scopedRest cfg0.spec c : sProp 𝕄) = _ from scopedRest0_eq c]
  rw [show _ = commAny c 0 0 from whole_any (F := F) c cc0_scratch0, show _ = commAny c 0 1 from whole_any (F := F) c cc0_scratch1,
    show _ = commAny c 0 2 from whole_any (F := F) c cc0_scratch2, show _ = commAny c 0 3 from whole_any (F := F) c cc0_scratch3,
    show _ = commAny c 1 0 from whole_any (F := F) c cc0_scratch4, show _ = commAny c 1 1 from whole_any (F := F) c cc0_scratch5,
    show _ = commAny c 1 2 from whole_any (F := F) c cc0_scratch6, show _ = commAny c 1 3 from whole_any (F := F) c cc0_scratch7]
  unfold landings
  constructor
  · iintro ⟨H0, H1, H2, H3, H4, H5, H6, H7⟩
    isplitl [H0 H1 H2 H3]
    · isplitl [H0]; · iexact H0
      isplitl [H1]; · iexact H1
      isplitl [H2]; · iexact H2
      iexact H3
    · isplitl [H4]; · iexact H4
      isplitl [H5]; · iexact H5
      isplitl [H6]; · iexact H6
      iexact H7
  · iintro ⟨⟨H0, H1, H2, H3⟩, ⟨H4, H5, H6, H7⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What holds before the body, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (landings_eq (F := F) c).1; iexact Hr

/-- and what is given back after it. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ spent
  rw [bigSep_sep']
  iintro ⟨Hr, HzB, HzS, HzV⟩
  isplitl [HzB]; · iexact HzB
  isplitl [HzS HzV]
  · isplitl [HzS] <;> iassumption
  iapply (landings_eq (F := F) c).2; iexact Hr

/-- A device may wait on its staging semaphores whatever it owes. -/
theorem mayWait_stage (c : Dev nD) (q : DmaSem sig) (hq : q.val < 2) (l : List Pay) (hl : ∀ p ∈ l, 0 < plevel p) :
    (levAts L lv : sProp 𝕄) ⊢ MayWait (c : Thread nD τ) (.dma q) () (owing c l) :=
  mayWait c _ l 0 (by unfold lv slotOf; dsimp only; rw [if_pos hq]) hl

/-- So the pipeline may wait where it does. -/
theorem waits (c : Dev nD) : (levAts L lv : sProp 𝕄) ⊢ Pipeline.cellsWaits cfgs (dats m ρ) () 0 c :=
  Pipeline.cellsWaits_intro cfgs (dats m ρ) () 0 c fun w s t => by
    have hq : ((cfg0.win w).sem s).val < 2 := by fin_cases w <;> fin_cases s <;> decide
    rcases t with ⟨_ | _, ht⟩
    · exact mayWait_stage c _ hq payments (by decide)
    · exact mayWait_stage c _ hq [] (by decide)

/-! ## The run -/

/-- The arrays after the run. -/
def finalA (c : Dev nD) (w : Fin cfg0.W) : Buf (Elt F) ((cfg0.win w).arr.view.loc (c : Thread nD τ)) := (dats m ρ 0 c).arrAt w cfg0.N

/-- Every device has its arrays as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero, on the sixteen devices, for any float values: every weakly fair execution
    ends, each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The input array's one block is the whole array: the input staging buffer held it. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- After the run the input array holds what it held; -/
theorem finalA_x (c : Dev nD) : finalA m ρ c (0 : Fin 2) = m ((c : Thread nD τ).loc main_arg0) :=
  (dats (F := F) m ρ 0 c).arrAt_in (0 : Fin 2) rfl _

/-- the result array holds the finished values. -/
theorem finalA_o (c : Dev nD) : finalA m ρ c (1 : Fin 2) = outAt m ρ := by
  have hz : (fun a => (win0_1.index (0 : Fin 1)) a * main_v1.ty.shape.size a) = fun _ => 0 := funext fun a => by fin_cases a <;> decide
  refine (Memref.read_access_unit_zero (Elt F) main_v1 hz (fun a => by fin_cases a <;> decide) _).symm.trans ?_
  show (win0_1.blk (0 : Fin 1)).view.read (Elt F) (finalA m ρ c (1 : Fin 2)) = outAt m ρ
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The run, read at the two arrays: every device's result array holds the finished values and its input array what it
    held, and every counter is zero. -/
theorem run_value : θ_run defs (onTc (τ := τ) (main (F := F))) (s₀ m ρ) (fun r => (∀ c : Dev nD,
    r.2.mem ((c : Thread nD τ).loc main_v1) = outAt m ρ ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩) (run_main m ρ)

end Cert.KernelIdealProof

end
-- ==== Proof.Value.lean ====
/-
# The value

In exact arithmetic the finished value of a row and column is the sum of the sixteen devices' values there, and so is the
reference's: the reference cuts its rows into sixteen blocks and adds the blocks up.
-/
module

public import proofs.«01_k».proof.Proof.KernelIdeal.Launch
public import proofs.«01_k».proof.Proof.Gen.ReferenceIdeal
public import proofs.«01_k».proof.Proof.Gen.ReferenceIdeal.Run
public import Idealize.ShloMosaic.Lib.IdealHost
public import Idealize.ShloMosaic.Lib.Layout
public import Idealize.ShloMosaic.Lib.Pointwise

@[expose] public section

noncomputable section

namespace Cert.Value

open Idealize.ShloMosaic Idealize.ShloMosaic.TcCoe Cert.Cube
open Cert.KernelIdeal (nD τ sig S1024x512)

/-- The rows of the whole array are sixteen times a device's. -/
theorem tiles : Layout.Tiles ⟨2, ![1024, 512]⟩ ⟨2, ![16384, 512]⟩ 0 16 := by decide

/-- What device `d`'s block of the input holds at an index. -/
def entry (m : (ℓ : Loc nD τ sig) → Buf (Elt Ideal) ℓ) (d : Dev nD) (i : S1024x512.Idx) : EReal := m ((d : Thread nD τ).loc Cert.KernelIdeal.main_arg0) i

/-- In exact arithmetic each element of the finished array is the sum of the sixteen devices' elements. -/
theorem finished_eq_sum (m : (ℓ : Loc nD τ sig) → Buf (Elt Ideal) ℓ) (ρ : Dev nD → PrngReg) (i : S1024x512.Idx) :
    KernelIdealProof.outAt m ρ i = ∑ d : Fin 16, entry m d i := by
  have h : KernelIdealProof.outAt m ρ i = ∑ d : Fin 16, (KernelIdealProof.X m ρ (i 0).val (i 1).val d : EReal) :=
    acc_eq_sum (V := EReal) (KernelIdealProof.X m ρ (i 0).val (i 1).val) (grp (i 0).val) (owner (i 0).val)
  rw [h]
  refine Finset.sum_congr rfl fun d _ => ?_
  exact congrFun ((KernelIdealProof.full_X m ρ d).trans (KernelIdealProof.xstg_eq m ρ d)) i

/-- The reference's result at an element is the sum of the sixteen blocks' elements. -/
theorem reference_eq_sum (x : (⟨2, ![16384, 512]⟩ : Shape).Idx → EReal) (i : S1024x512.Idx) :
    (Host.reduceAdd (F := Ideal) (φ := .f32) (shapeCast Cert.ReferenceIdeal.S16x1024x512 (x : FVec Ideal ⟨2, ![16384, 512]⟩ .f32) Cert.ReferenceIdeal.Gen.shapeCasts_S16384x512_S16x1024x512)
        (constant (F := Ideal) Cert.ReferenceIdeal.S_ .f32 0x00000000#32) Cert.ReferenceIdeal.Gen.reducesTo_S16x1024x512_S1024x512_d0 Cert.ReferenceIdeal.Gen.h_S_ : S1024x512.Idx → EReal) i
      = ∑ d : Fin 16, x (tiles.idx d i) := by
  pointwise
  refine Finset.sum_congr rfl fun d _ => congrArg x (funext fun a => Fin.ext ?_)
  fin_cases a <;> rfl

/-- From inputs that agree, every device's finished array is the reference's result. -/
theorem finished_eq_reference (m : (ℓ : Loc nD τ sig) → Buf (Elt Ideal) ℓ) (ρ : Dev nD → PrngReg) (x : FVec Ideal ⟨2, ![16384, 512]⟩ .f32)
    (h : ∀ c : Dev nD, m ((c : Thread nD τ).loc Cert.KernelIdeal.main_arg0) = Layout.block ⟨2, ![1024, 512]⟩ ⟨2, ![16384, 512]⟩ 0 16 c x tiles) :
    KernelIdealProof.outAt m ρ
      = Host.reduceAdd (shapeCast Cert.ReferenceIdeal.S16x1024x512 x Cert.ReferenceIdeal.Gen.shapeCasts_S16384x512_S16x1024x512)
          (constant (F := Ideal) Cert.ReferenceIdeal.S_ .f32 0x00000000#32) Cert.ReferenceIdeal.Gen.reducesTo_S16x1024x512_S1024x512_d0 Cert.ReferenceIdeal.Gen.h_S_ := by
  funext i
  rw [finished_eq_sum]
  refine Eq.trans ?_ (reference_eq_sum x i).symm
  exact Finset.sum_congr rfl fun d _ => congrFun (h d) i

end Cert.Value

end
-- ==== Proof.lean ====
/-
# The claims

Each program runs, leaves its argument as it was and every counter at zero; the kernel read in exact arithmetic is the
kernel's own text; and in exact arithmetic every device's result is the reference's, the sum of the sixteen blocks of the
input. The kernel's run is `run_value` of Proof/Kernel/Launch.lean, for any float values; the sums are in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent

@[expose] public section

noncomputable section

namespace Cert.Proof

open Idealize.ShloMosaic Idealize.SL.Sem

/-- The kernel runs, keeps its argument and ends with every counter at zero; -/
theorem frame_kernel : Cert.quiescent_Kernel := fun m ρ _ =>
  (θ_run Cert.Kernel.defs _ _).mono (fun _ h => ⟨fun c => (h.1 c).2, h.2⟩) (Cert.KernelProof.run_value (F := Bits) m ρ)

/-- so does the kernel in exact arithmetic; -/
theorem frame_kernelIdeal : Cert.quiescent_KernelIdeal := fun m ρ _ =>
  (θ_run Cert.KernelIdeal.defs _ _).mono (fun _ h => ⟨fun c => (h.1 c).2, h.2⟩) (Cert.KernelIdealProof.run_value (F := Ideal) m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic, from an input cut into blocks over the devices, every device's result is the reference's. -/
theorem algebraic : Cert.algebraic_KernelIdeal_ReferenceIdeal := fun m ρ m' ρ' _ hag =>
  ⟨_, (θ_run Cert.KernelIdeal.defs _ _).mono
      (fun _ h c => ⟨(h.1 c).1.trans (Cert.Value.finished_eq_reference m ρ _ hag), (h.1 c).2⟩) (Cert.KernelIdealProof.run_value (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
